-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ordinary [hPre_ordinary : Cert.Pre_ordinary.Facts] (m : (ℓ : Loc Cert.KernelIdeal.nD Cert.KernelIdeal.τ Cert.KernelIdeal.sig) → Buf (Elt Ideal) ℓ) : Prop :=
  ∀ c : Dev Cert.KernelIdeal.nD,
    (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).1 = (fun _ => 1#1)
    ∧ (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.1 = (fun _ => 1#1)
    ∧ (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.1 = (fun _ => 1#1)
    ∧ (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ordinary [hPre_ordinary : Cert.Pre_ordinary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).1 = (fun _ => 1#1)
    ∧ (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.1 = (fun _ => 1#1)
    ∧ (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.1 = (fun _ => 1#1)
    ∧ (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ r.2.sem = fun _ => 0)

def quiescent_KernelIdeal_pre_ordinary [hKernelIdeal : Cert.KernelIdeal.Facts] [hPre_ordinary : Cert.Pre_ordinary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ordinary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))
      ∧ r.2.sem = fun _ => 0)

def quiescent_ReferenceIdeal_pre_ordinary [hReferenceIdeal : Cert.ReferenceIdeal.Facts] [hPre_ordinary : Cert.Pre_ordinary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ordinary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))
      ∧ r.2.sem = fun _ => 0)

def preserves_Kernel_KernelIdeal : Prop :=
  IdealRules.named_const.Statement Cert.KernelIdeal.κ "scale" .f32 0x3EB8AA3B#32 (((Real.log 2)⁻¹ * 4⁻¹ : ℝ) : EReal)

def algebraic_KernelIdeal_ReferenceIdeal_pre_ordinary [hKernelIdeal : Cert.KernelIdeal.Facts] [hReferenceIdeal : Cert.ReferenceIdeal.Facts] [hPre_ordinary : Cert.Pre_ordinary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ordinary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v18_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v18_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_ordinary : Cert.Pre_ordinary.Facts),
    quiescent_Kernel (hKernel := hKernel)
    ∧ quiescent_KernelIdeal (hKernelIdeal := hKernelIdeal)
    ∧ quiescent_KernelIdeal_pre_ordinary (hKernelIdeal := hKernelIdeal) (hPre_ordinary := hPre_ordinary)
    ∧ quiescent_ReferenceIdeal (hReferenceIdeal := hReferenceIdeal)
    ∧ quiescent_ReferenceIdeal_pre_ordinary (hReferenceIdeal := hReferenceIdeal) (hPre_ordinary := hPre_ordinary)
    ∧ preserves_Kernel_KernelIdeal
    ∧ algebraic_KernelIdeal_ReferenceIdeal_pre_ordinary (hKernelIdeal := hKernelIdeal) (hReferenceIdeal := hReferenceIdeal) (hPre_ordinary := hPre_ordinary)
-- ==== Pre_ordinary.lean ====
abbrev S512x128 : Shape := ⟨2, ![512, 128]⟩
abbrev S512x512x128 : Shape := ⟨3, ![512, 512, 128]⟩
abbrev S512x512 : Shape := ⟨2, ![512, 512]⟩
abbrev S128x384 : Shape := ⟨2, ![128, 384]⟩
abbrev S128 : Shape := ⟨1, ![128]⟩
abbrev S128x128 : Shape := ⟨2, ![128, 128]⟩
abbrev S2048x128 : Shape := ⟨2, ![2048, 128]⟩
abbrev S2048 : Shape := ⟨1, ![2048]⟩
abbrev S128x2048 : Shape := ⟨2, ![128, 2048]⟩
abbrev S_ : Shape := ⟨0, ![]⟩

class Facts : Prop where
  bcast_S_S128 : S_.BroadcastsInDim S128 (![] : Fin 0 → Fin S128.rank)
  bcast_S_S128x128 : S_.BroadcastsInDim S128x128 (![] : Fin 0 → Fin S128x128.rank)
  bcast_S_S2048 : S_.BroadcastsInDim S2048 (![] : Fin 0 → Fin S2048.rank)

variable [Facts]

def fn_part3 {F : FTy → Type} [FloatOps F] (main_arg15 : FVec F S128x128 .f32) (main_arg22 : FVec F S2048 .f32) (main_v50 : IVec S128 1) (main_v51 : IVec S512x512 1) (main_v52 : FVec F S128x128 .f32) (main_v53 : FVec F S128x128 .f32) : IVec S512x512 1 × IVec S128x128 1 × IVec S128 1 × IVec S2048 1 :=
  let main_v54 : IVec S128x128 1 := cmpf .olt main_v52 main_v53
  let main_v55 : FVec F S128x128 .f32 := Host.absf main_arg15
  let main_cst_17 : FVec F S_ .f32 := constant S_ .f32 0x7F800000#32
  let main_v56 : FVec F S128x128 .f32 := broadcastInDim S128x128 ![] bcast_S_S128x128 main_cst_17
  let main_v57 : IVec S128x128 1 := cmpf .olt main_v55 main_v56
  let main_v58 : IVec S128x128 1 := andi main_v54 main_v57
  let main_cst_18 : FVec F S_ .f32 := constant S_ .f32 0x00000000#32
  let main_v59 : FVec F S2048 .f32 := broadcastInDim S2048 ![] bcast_S_S2048 main_cst_18
  let main_v60 : IVec S2048 1 := cmpf .oeq main_arg22 main_v59
  (main_v51, main_v58, main_v50, main_v60)

def fn_part2 {F : FTy → Type} [FloatOps F] (main_arg2 : IVec S512x512 1) (main_arg5 : FVec F S128 .f32) (main_arg9 : FVec F S128 .f32) (main_arg11 : FVec F S128 .f32) (main_arg13 : FVec F S128x128 .f32) (main_arg15 : FVec F S128x128 .f32) (main_arg22 : FVec F S2048 .f32) (main_arg25 : FVec F S128 .f32) (main_arg27 : FVec F S128 .f32) (main_v35 : IVec S128 1) : IVec S512x512 1 × IVec S128x128 1 × IVec S128 1 × IVec S2048 1 :=
  let main_cst_11 : FVec F S_ .f32 := constant S_ .f32 0x3F800000#32
  let main_v36 : FVec F S128 .f32 := broadcastInDim S128 ![] bcast_S_S128 main_cst_11
  let main_v37 : IVec S128 1 := cmpf .oeq main_arg5 main_v36
  let main_cst_12 : FVec F S_ .f32 := constant S_ .f32 0x3F800000#32
  let main_v38 : FVec F S128 .f32 := broadcastInDim S128 ![] bcast_S_S128 main_cst_12
  let main_v39 : IVec S128 1 := cmpf .oeq main_arg9 main_v38
  let main_cst_13 : FVec F S_ .f32 := constant S_ .f32 0x3F800000#32
  let main_v40 : FVec F S128 .f32 := broadcastInDim S128 ![] bcast_S_S128 main_cst_13
  let main_v41 : IVec S128 1 := cmpf .oeq main_arg11 main_v40
  let main_cst_14 : FVec F S_ .f32 := constant S_ .f32 0x3F800000#32
  let main_v42 : FVec F S128 .f32 := broadcastInDim S128 ![] bcast_S_S128 main_cst_14
  let main_v43 : IVec S128 1 := cmpf .oeq main_arg25 main_v42
  let main_cst_15 : FVec F S_ .f32 := constant S_ .f32 0x3F800000#32
  let main_v44 : FVec F S128 .f32 := broadcastInDim S128 ![] bcast_S_S128 main_cst_15
  let main_v45 : IVec S128 1 := cmpf .oeq main_arg27 main_v44
  let main_v46 : IVec S128 1 := andi main_v37 main_v39
  let main_v47 : IVec S128 1 := andi main_v46 main_v41
  let main_v48 : IVec S128 1 := andi main_v47 main_v43
  let main_v49 : IVec S128 1 := andi main_v48 main_v45
  let main_v50 : IVec S128 1 := andi main_v35 main_v49
  let main_v51 : IVec S512x512 1 := noti main_arg2
  let main_v52 : FVec F S128x128 .f32 := Host.absf main_arg13
  let main_cst_16 : FVec F S_ .f32 := constant S_ .f32 0x7F800000#32
  let main_v53 : FVec F S128x128 .f32 := broadcastInDim S128x128 ![] bcast_S_S128x128 main_cst_16
  fn_part3 (F := F) main_arg15 main_arg22 main_v50 main_v51 main_v52 main_v53

def fn_part1 {F : FTy → Type} [FloatOps F] (main_arg2 : IVec S512x512 1) (main_arg5 : FVec F S128 .f32) (main_arg9 : FVec F S128 .f32) (main_arg11 : FVec F S128 .f32) (main_arg13 : FVec F S128x128 .f32) (main_arg15 : FVec F S128x128 .f32) (main_arg18 : FVec F S128 .f32) (main_arg20 : FVec F S128 .f32) (main_arg22 : FVec F S2048 .f32) (main_arg24 : FVec F S128 .f32) (main_arg25 : FVec F S128 .f32) (main_arg26 : FVec F S128 .f32) (main_arg27 : FVec F S128 .f32) (main_arg28 : FVec F S128 .f32) (main_v2 : IVec S128 1) (main_v4 : IVec S128 1) (main_v6 : IVec S128 1) (main_v8 : IVec S128 1) (main_v10 : IVec S128 1) (main_v12 : IVec S128 1) (main_v14 : IVec S128 1) (main_v15 : FVec F S128 .f32) : IVec S512x512 1 × IVec S128x128 1 × IVec S128 1 × IVec S2048 1 :=
  let main_v16 : IVec S128 1 := cmpf .oeq main_arg18 main_v15
  let main_cst_7 : FVec F S_ .f32 := constant S_ .f32 0x00000000#32
  let main_v17 : FVec F S128 .f32 := broadcastInDim S128 ![] bcast_S_S128 main_cst_7
  let main_v18 : IVec S128 1 := cmpf .oeq main_arg20 main_v17
  let main_cst_8 : FVec F S_ .f32 := constant S_ .f32 0x00000000#32
  let main_v19 : FVec F S128 .f32 := broadcastInDim S128 ![] bcast_S_S128 main_cst_8
  let main_v20 : IVec S128 1 := cmpf .oeq main_arg24 main_v19
  let main_cst_9 : FVec F S_ .f32 := constant S_ .f32 0x00000000#32
  let main_v21 : FVec F S128 .f32 := broadcastInDim S128 ![] bcast_S_S128 main_cst_9
  let main_v22 : IVec S128 1 := cmpf .oeq main_arg26 main_v21
  let main_cst_10 : FVec F S_ .f32 := constant S_ .f32 0x00000000#32
  let main_v23 : FVec F S128 .f32 := broadcastInDim S128 ![] bcast_S_S128 main_cst_10
  let main_v24 : IVec S128 1 := cmpf .oeq main_arg28 main_v23
  let main_v25 : IVec S128 1 := andi main_v4 main_v6
  let main_v26 : IVec S128 1 := andi main_v25 main_v8
  let main_v27 : IVec S128 1 := andi main_v26 main_v10
  let main_v28 : IVec S128 1 := andi main_v27 main_v12
  let main_v29 : IVec S128 1 := andi main_v28 main_v14
  let main_v30 : IVec S128 1 := andi main_v29 main_v16
  let main_v31 : IVec S128 1 := andi main_v30 main_v18
  let main_v32 : IVec S128 1 := andi main_v31 main_v20
  let main_v33 : IVec S128 1 := andi main_v32 main_v22
  let main_v34 : IVec S128 1 := andi main_v33 main_v24
  let main_v35 : IVec S128 1 := andi main_v2 main_v34
  fn_part2 (F := F) main_arg2 main_arg5 main_arg9 main_arg11 main_arg13 main_arg15 main_arg22 main_arg25 main_arg27 main_v35

def fn {F : FTy → Type} [FloatOps F] (main_arg0 : FVec F S512x128 .f32) (main_arg1 : FVec F S512x512x128 .f32) (main_arg2 : IVec S512x512 1) (main_arg3 : FVec F S128x384 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S2048x128 .f32) (main_arg22 : FVec F S2048 .f32) (main_arg23 : FVec F S128x2048 .f32) (main_arg24 : FVec F S128 .f32) (main_arg25 : FVec F S128 .f32) (main_arg26 : FVec F S128 .f32) (main_arg27 : FVec F S128 .f32) (main_arg28 : FVec F S128 .f32) : IVec S512x512 1 × IVec S128x128 1 × IVec S128 1 × IVec S2048 1 :=
  let main_v0 : FVec F S128 .f32 := Host.absf main_arg16
  let main_cst : FVec F S_ .f32 := constant S_ .f32 0x7F800000#32
  let main_v1 : FVec F S128 .f32 := broadcastInDim S128 ![] bcast_S_S128 main_cst
  let main_v2 : IVec S128 1 := cmpf .olt main_v0 main_v1
  let main_cst_0 : FVec F S_ .f32 := constant S_ .f32 0x00000000#32
  let main_v3 : FVec F S128 .f32 := broadcastInDim S128 ![] bcast_S_S128 main_cst_0
  let main_v4 : IVec S128 1 := cmpf .oeq main_arg4 main_v3
  let main_cst_1 : FVec F S_ .f32 := constant S_ .f32 0x00000000#32
  let main_v5 : FVec F S128 .f32 := broadcastInDim S128 ![] bcast_S_S128 main_cst_1
  let main_v6 : IVec S128 1 := cmpf .oeq main_arg6 main_v5
  let main_cst_2 : FVec F S_ .f32 := constant S_ .f32 0x00000000#32
  let main_v7 : FVec F S128 .f32 := broadcastInDim S128 ![] bcast_S_S128 main_cst_2
  let main_v8 : IVec S128 1 := cmpf .oeq main_arg8 main_v7
  let main_cst_3 : FVec F S_ .f32 := constant S_ .f32 0x00000000#32
  let main_v9 : FVec F S128 .f32 := broadcastInDim S128 ![] bcast_S_S128 main_cst_3
  let main_v10 : IVec S128 1 := cmpf .oeq main_arg10 main_v9
  let main_cst_4 : FVec F S_ .f32 := constant S_ .f32 0x00000000#32
  let main_v11 : FVec F S128 .f32 := broadcastInDim S128 ![] bcast_S_S128 main_cst_4
  let main_v12 : IVec S128 1 := cmpf .oeq main_arg12 main_v11
  let main_cst_5 : FVec F S_ .f32 := constant S_ .f32 0x00000000#32
  let main_v13 : FVec F S128 .f32 := broadcastInDim S128 ![] bcast_S_S128 main_cst_5
  let main_v14 : IVec S128 1 := cmpf .oeq main_arg14 main_v13
  let main_cst_6 : FVec F S_ .f32 := constant S_ .f32 0x00000000#32
  let main_v15 : FVec F S128 .f32 := broadcastInDim S128 ![] bcast_S_S128 main_cst_6
  fn_part1 (F := F) main_arg2 main_arg5 main_arg9 main_arg11 main_arg13 main_arg15 main_arg18 main_arg20 main_arg22 main_arg24 main_arg25 main_arg26 main_arg27 main_arg28 main_v2 main_v4 main_v6 main_v8 main_v10 main_v12 main_v14 main_v15
-- ==== Kernel.lean ====
abbrev S512x128 : Shape := ⟨2, ![512, 128]⟩
abbrev S512x512x128 : Shape := ⟨3, ![512, 512, 128]⟩
abbrev S512x512 : Shape := ⟨2, ![512, 512]⟩
abbrev S128x384 : Shape := ⟨2, ![128, 384]⟩
abbrev S128 : Shape := ⟨1, ![128]⟩
abbrev S128x128 : Shape := ⟨2, ![128, 128]⟩
abbrev S2048x128 : Shape := ⟨2, ![2048, 128]⟩
abbrev S2048 : Shape := ⟨1, ![2048]⟩
abbrev S128x2048 : Shape := ⟨2, ![128, 2048]⟩
abbrev S8x512x128 : Shape := ⟨3, ![8, 512, 128]⟩
abbrev S512x16 : Shape := ⟨2, ![512, 16]⟩
abbrev S16x128 : Shape := ⟨2, ![16, 128]⟩
abbrev S1x512x128 : Shape := ⟨3, ![1, 512, 128]⟩
abbrev S512x8x128 : Shape := ⟨3, ![512, 8, 128]⟩
abbrev S4096x128 : Shape := ⟨2, ![4096, 128]⟩
abbrev S4096x64 : Shape := ⟨2, ![4096, 64]⟩
abbrev S_ : Shape := ⟨0, ![]⟩
abbrev S8x128 : Shape := ⟨2, ![8, 128]⟩
abbrev S64x128 : Shape := ⟨2, ![64, 128]⟩
abbrev S512x1x128 : Shape := ⟨3, ![512, 1, 128]⟩
abbrev S1x8x128 : Shape := ⟨3, ![1, 8, 128]⟩
abbrev S4096 : Shape := ⟨1, ![4096]⟩
abbrev S4096x1 : Shape := ⟨2, ![4096, 1]⟩
abbrev S128x64 : Shape := ⟨2, ![128, 64]⟩
abbrev S64 : Shape := ⟨1, ![64]⟩
abbrev S1x64 : Shape := ⟨2, ![1, 64]⟩
abbrev S512 : Shape := ⟨1, ![512]⟩
abbrev S512x1 : Shape := ⟨2, ![512, 1]⟩
abbrev S512x2048 : Shape := ⟨2, ![512, 2048]⟩

abbrev nBuf : Space → Nat
  | .hbm => 98
  | .vmem => 29
  | .smem => 0
  | _ => 0

abbrev bufTy : (tb : Table) → Fin (tcTables nBuf tb) → BufTy
  | .hbm, ⟨0, _⟩ => ⟨S512x128, .f32⟩
  | .hbm, ⟨1, _⟩ => ⟨S512x512x128, .f32⟩
  | .hbm, ⟨2, _⟩ => ⟨S512x512, .i1⟩
  | .hbm, ⟨3, _⟩ => ⟨S128x384, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S128x128, .f32⟩
  | .hbm, ⟨20, _⟩ => ⟨S128, .f32⟩
  | .hbm, ⟨21, _⟩ => ⟨S2048x128, .f32⟩
  | .hbm, ⟨22, _⟩ => ⟨S2048, .f32⟩
  | .hbm, ⟨23, _⟩ => ⟨S128x2048, .f32⟩
  | .hbm, ⟨24, _⟩ => ⟨S128, .f32⟩
  | .hbm, ⟨25, _⟩ => ⟨S128, .f32⟩
  | .hbm, ⟨26, _⟩ => ⟨S128, .f32⟩
  | .hbm, ⟨27, _⟩ => ⟨S128, .f32⟩
  | .hbm, ⟨28, _⟩ => ⟨S128, .f32⟩
  | .hbm, ⟨29, _⟩ => ⟨S128x128, .f32⟩
  | .hbm, ⟨30, _⟩ => ⟨S128x128, .f32⟩
  | .hbm, ⟨31, _⟩ => ⟨S128x128, .f32⟩
  | .hbm, ⟨32, _⟩ => ⟨S128x128, .f32⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S512x128, .f32⟩
  | .hbm, ⟨37, _⟩ => ⟨S512x128, .f32⟩
  | .hbm, ⟨38, _⟩ => ⟨S8x512x128, .f32⟩
  | .hbm, ⟨39, _⟩ => ⟨S512x8x128, .f32⟩
  | .hbm, ⟨40, _⟩ => ⟨S4096x128, .f32⟩
  | .hbm, ⟨41, _⟩ => ⟨S4096x64, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S4096x64, .i32⟩
  | .hbm, ⟨49, _⟩ => ⟨S4096x64, .i32⟩
  | .hbm, ⟨50, _⟩ => ⟨S_, .i32⟩
  | .hbm, ⟨51, _⟩ => ⟨S4096x64, .i32⟩
  | .hbm, ⟨52, _⟩ => ⟨S4096x64, .i1⟩
  | .hbm, ⟨53, _⟩ => ⟨S_, .i32⟩
  | .hbm, ⟨54, _⟩ => ⟨S4096x64, .i32⟩
  | .hbm, ⟨55, _⟩ => ⟨S4096x64, .i1⟩
  | .hbm, ⟨56, _⟩ => ⟨S_, .i32⟩
  | .hbm, ⟨57, _⟩ => ⟨S_, .i1⟩
  | .hbm, ⟨58, _⟩ => ⟨S4096x64, .i1⟩
  | .hbm, ⟨59, _⟩ => ⟨S4096x64, .i1⟩
  | .hbm, ⟨60, _⟩ => ⟨S4096x64, .i1⟩
  | .hbm, ⟨61, _⟩ => ⟨S4096x64, .i32⟩
  | .hbm, ⟨62, _⟩ => ⟨S4096x64, .i32⟩
  | .hbm, ⟨63, _⟩ => ⟨S4096x64, .i32⟩
  | .hbm, ⟨64, _⟩ => ⟨S4096x64, .i32⟩
  | .hbm, ⟨65, _⟩ => ⟨S_, .i32⟩
  | .hbm, ⟨66, _⟩ => ⟨S_, .i32⟩
  | .hbm, ⟨67, _⟩ => ⟨S4096x64, .i32⟩
  | .hbm, ⟨68, _⟩ => ⟨S4096x64, .i32⟩
  | .hbm, ⟨69, _⟩ => ⟨S4096x64, .i32⟩
  | .hbm, ⟨70, _⟩ => ⟨S_, .i32⟩
  | .hbm, ⟨71, _⟩ => ⟨S4096x64, .i32⟩
  | .hbm, ⟨72, _⟩ => ⟨S4096x64, .i1⟩
  | .hbm, ⟨73, _⟩ => ⟨S4096x64, .i32⟩
  | .hbm, ⟨74, _⟩ => ⟨S4096x64, .i32⟩
  | .hbm, ⟨75, _⟩ => ⟨S_, .i32⟩
  | .hbm, ⟨76, _⟩ => ⟨S4096x64, .i32⟩
  | .hbm, ⟨77, _⟩ => ⟨S4096x64, .i1⟩
  | .hbm, ⟨78, _⟩ => ⟨S4096x64, .i1⟩
  | .hbm, ⟨79, _⟩ => ⟨S_, .i32⟩
  | .hbm, ⟨80, _⟩ => ⟨S4096x64, .i32⟩
  | .hbm, ⟨81, _⟩ => ⟨S4096x64, .i32⟩
  | .hbm, ⟨82, _⟩ => ⟨S4096x64, .i32⟩
  | .hbm, ⟨83, _⟩ => ⟨S4096x64, .i1⟩
  | .hbm, ⟨84, _⟩ => ⟨S_, .f32⟩
  | .hbm, ⟨85, _⟩ => ⟨S_, .f32⟩
  | .hbm, ⟨86, _⟩ => ⟨S4096x64, .f32⟩
  | .hbm, ⟨87, _⟩ => ⟨S4096x64, .f32⟩
  | .hbm, ⟨88, _⟩ => ⟨S4096x64, .f32⟩
  | .hbm, ⟨89, _⟩ => ⟨S4096x64, .f32⟩
  | .hbm, ⟨90, _⟩ => ⟨S128x128, .f32⟩
  | .hbm, ⟨91, _⟩ => ⟨S512x512x128, .f32⟩
  | .hbm, ⟨92, _⟩ => ⟨S4096x128, .f32⟩
  | .hbm, ⟨93, _⟩ => ⟨S128x128, .f32⟩
  | .hbm, ⟨94, _⟩ => ⟨S128x128, .f32⟩
  | .hbm, ⟨95, _⟩ => ⟨S128x2048, .f32⟩
  | .hbm, ⟨96, _⟩ => ⟨S2048x128, .f32⟩
  | .hbm, ⟨97, _⟩ => ⟨S512x128, .f32⟩
  | .local _ .vmem, ⟨0, _⟩ => ⟨S512x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S512x128, .f32⟩
  | .local _ .vmem, ⟨6, _⟩ => ⟨S512x128, .f32⟩
  | .local _ .vmem, ⟨7, _⟩ => ⟨S8x512x128, .f32⟩
  | .local _ .vmem, ⟨8, _⟩ => ⟨S512x8x128, .f32⟩
  | .local _ .vmem, ⟨9, _⟩ => ⟨S512x8x128, .f32⟩
  | .local _ .vmem, ⟨10, _⟩ => ⟨S8x128, .f32⟩
  | .local _ .vmem, ⟨11, _⟩ => ⟨S8x128, .f32⟩
  | .local _ .vmem, ⟨12, _⟩ => ⟨S512x128, .f32⟩
  | .local _ .vmem, ⟨13, _⟩ => ⟨S64x128, .f32⟩
  | .local _ .vmem, ⟨14, _⟩ => ⟨S64x128, .f32⟩
  | .local _ .vmem, ⟨15, _⟩ => ⟨S128x128, .f32⟩
  | .local _ .vmem, ⟨16, _⟩ => ⟨S128x128, .f32⟩
  | .local _ .vmem, ⟨17, _⟩ => ⟨S4096x64, .f32⟩
  | .local _ .vmem, ⟨18, _⟩ => ⟨S512x8x128, .f32⟩
  | .local _ .vmem, ⟨19, _⟩ => ⟨S512x8x128, .f32⟩
  | .local _ .vmem, ⟨20, _⟩ => ⟨S64x128, .f32⟩
  | .local _ .vmem, ⟨21, _⟩ => ⟨S64x128, .f32⟩
  | .local _ .vmem, ⟨22, _⟩ => ⟨S4096x128, .f32⟩
  | .local _ .vmem, ⟨23, _⟩ => ⟨S512x128, .f32⟩
  | .local _ .vmem, ⟨24, _⟩ => ⟨S128x128, .f32⟩
  | .local _ .vmem, ⟨25, _⟩ => ⟨S128x128, .f32⟩
  | .local _ .vmem, ⟨26, _⟩ => ⟨S128x2048, .f32⟩
  | .local _ .vmem, ⟨27, _⟩ => ⟨S2048x128, .f32⟩
  | .local _ .vmem, ⟨28, _⟩ => ⟨S512x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7_0 : Ref sig .tc := ⟨.hbm, 36, rfl⟩
abbrev main_v7_1 : Ref sig .tc := ⟨.hbm, 37, rfl⟩
abbrev main_v7_2 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_c : Ref sig .tc := ⟨.hbm, 42, rfl⟩
abbrev main_call0_v0 : Ref sig .tc := ⟨.hbm, 43, rfl⟩
abbrev main_call0_c : Ref sig .tc := ⟨.hbm, 44, rfl⟩
abbrev main_call0_v1 : Ref sig .tc := ⟨.hbm, 45, rfl⟩
abbrev main_call0_c_0 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_c_1 : Ref sig .tc := ⟨.hbm, 50, rfl⟩
abbrev main_call0_v5 : Ref sig .tc := ⟨.hbm, 51, rfl⟩
abbrev main_call0_v6 : Ref sig .tc := ⟨.hbm, 52, rfl⟩
abbrev main_call0_c_2 : Ref sig .tc := ⟨.hbm, 53, rfl⟩
abbrev main_call0_v7 : Ref sig .tc := ⟨.hbm, 54, rfl⟩
abbrev main_call0_v8 : Ref sig .tc := ⟨.hbm, 55, rfl⟩
abbrev main_call0_c_3 : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_call0_v12 : Ref sig .tc := ⟨.hbm, 60, rfl⟩
abbrev main_call0_v13 : Ref sig .tc := ⟨.hbm, 61, rfl⟩
abbrev main_call0_v14 : Ref sig .tc := ⟨.hbm, 62, rfl⟩
abbrev main_v11 : Ref sig .tc := ⟨.hbm, 63, rfl⟩
abbrev main_v12 : Ref sig .tc := ⟨.hbm, 64, rfl⟩
abbrev main_c_0 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_c : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_c_0 : Ref sig .tc := ⟨.hbm, 79, rfl⟩
abbrev main_call1_v12 : Ref sig .tc := ⟨.hbm, 80, rfl⟩
abbrev main_call1_v13 : Ref sig .tc := ⟨.hbm, 81, rfl⟩
abbrev main_v13 : Ref sig .tc := ⟨.hbm, 82, rfl⟩
abbrev main_v14 : Ref sig .tc := ⟨.hbm, 83, rfl⟩
abbrev main_cst : Ref sig .tc := ⟨.hbm, 84, rfl⟩
abbrev main_cst_1 : Ref sig .tc := ⟨.hbm, 85, rfl⟩
abbrev main_call2_v0 : Ref sig .tc := ⟨.hbm, 86, rfl⟩
abbrev main_call2_v1 : Ref sig .tc := ⟨.hbm, 87, rfl⟩
abbrev main_v15 : Ref sig .tc := ⟨.hbm, 88, rfl⟩
abbrev main_v16 : Ref sig .tc := ⟨.hbm, 89, rfl⟩
abbrev main_v17 : Ref sig .tc := ⟨.hbm, 90, rfl⟩
abbrev main_v18_0 : Ref sig .tc := ⟨.hbm, 91, rfl⟩
abbrev main_v18_1 : Ref sig .tc := ⟨.hbm, 92, rfl⟩
abbrev main_v19 : Ref sig .tc := ⟨.hbm, 93, rfl⟩
abbrev main_v20 : Ref sig .tc := ⟨.hbm, 94, rfl⟩
abbrev main_v21 : Ref sig .tc := ⟨.hbm, 95, rfl⟩
abbrev main_v22 : Ref sig .tc := ⟨.hbm, 96, rfl⟩
abbrev main_v23 : Ref sig .tc := ⟨.hbm, 97, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc2_stg0_0 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc1_sem8_0 : DmaSem sig := 20
abbrev cc1_sem8_1 : DmaSem sig := 21
abbrev cc2_sem0_0 : DmaSem sig := 22
abbrev cc2_sem1_0 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28

abbrev nD : Nat := 1
abbrev τ : Topo := Topo.v7x

variable {F : FTy → Type} [FloatOps F]

abbrev grid0 : Pipeline.Grid := .none

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x8x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S64x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S4096x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x8x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S64x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := .none

abbrev stage2_0 : Fin 1 → Memref sig .tc .vmem S4096x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S512x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S128x2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S2048x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S512x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
-- ==== KernelIdeal.lean ====
variable {F : FTy → Type} [FloatOps F] [Named F]
def κ : String → Option EReal := fun
  | "scale" => some (((Real.log 2)⁻¹ * 4⁻¹ : ℝ) : EReal)
  | _ => none
-- ==== ReferenceIdeal.lean ====
abbrev S512x128 : Shape := ⟨2, ![512, 128]⟩
abbrev S512x512x128 : Shape := ⟨3, ![512, 512, 128]⟩
abbrev S512x512 : Shape := ⟨2, ![512, 512]⟩
abbrev S128x384 : Shape := ⟨2, ![128, 384]⟩
abbrev S128 : Shape := ⟨1, ![128]⟩
abbrev S128x128 : Shape := ⟨2, ![128, 128]⟩
abbrev S2048x128 : Shape := ⟨2, ![2048, 128]⟩
abbrev S2048 : Shape := ⟨1, ![2048]⟩
abbrev S128x2048 : Shape := ⟨2, ![128, 2048]⟩
abbrev S1x512x128 : Shape := ⟨3, ![1, 512, 128]⟩
abbrev S512x1x128 : Shape := ⟨3, ![512, 1, 128]⟩
abbrev S512x512x384 : Shape := ⟨3, ![512, 512, 384]⟩
abbrev S384x128 : Shape := ⟨2, ![384, 128]⟩
abbrev S1x1x128 : Shape := ⟨3, ![1, 1, 128]⟩
abbrev S_ : Shape := ⟨0, ![]⟩
abbrev S512x512x1 : Shape := ⟨3, ![512, 512, 1]⟩
abbrev S1x128 : Shape := ⟨2, ![1, 128]⟩
abbrev S512x8x16 : Shape := ⟨3, ![512, 8, 16]⟩
abbrev S512x512x8x16 : Shape := ⟨4, ![512, 512, 8, 16]⟩
abbrev S512x8x512 : Shape := ⟨3, ![512, 8, 512]⟩
abbrev S512x1x512 : Shape := ⟨3, ![512, 1, 512]⟩
abbrev S512x8 : Shape := ⟨2, ![512, 8]⟩
abbrev S512x8x1 : Shape := ⟨3, ![512, 8, 1]⟩
abbrev S512 : Shape := ⟨1, ![512]⟩
abbrev S512x1 : Shape := ⟨2, ![512, 1]⟩
abbrev S512x2048 : Shape := ⟨2, ![512, 2048]⟩
abbrev S1x2048 : Shape := ⟨2, ![1, 2048]⟩

abbrev nBuf : Space → Nat
  | .hbm => 335
  | .vmem => 0
  | .smem => 0
  | _ => 0

abbrev hbmTy0_0 (i : Nat) : BufTy := match i % 128 with
  | 0 => ⟨S512x128, .f32⟩
  | 1 => ⟨S512x512x128, .f32⟩
  | 2 => ⟨S512x512, .i1⟩
  | 3 => ⟨S128x384, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128x128, .f32⟩
  | 18 => ⟨S128, .f32⟩
  | 19 => ⟨S128x128, .f32⟩
  | 20 => ⟨S128, .f32⟩
  | 21 => ⟨S2048x128, .f32⟩
  | 22 => ⟨S2048, .f32⟩
  | 23 => ⟨S128x2048, .f32⟩
  | 24 => ⟨S128, .f32⟩
  | 25 => ⟨S128, .f32⟩
  | 26 => ⟨S128, .f32⟩
  | 27 => ⟨S128, .f32⟩
  | 28 => ⟨S128, .f32⟩
  | 29 => ⟨S1x512x128, .f32⟩
  | 30 => ⟨S512x512x128, .f32⟩
  | 31 => ⟨S512x1x128, .f32⟩
  | 32 => ⟨S512x512x128, .f32⟩
  | 33 => ⟨S512x512x384, .f32⟩
  | 34 => ⟨S384x128, .f32⟩
  | 35 => ⟨S512x512x128, .f32⟩
  | 36 => ⟨S1x1x128, .f32⟩
  | 37 => ⟨S512x512x128, .f32⟩
  | 38 => ⟨S512x512x128, .f32⟩
  | 39 => ⟨S_, .f32⟩
  | 40 => ⟨S512x512, .f32⟩
  | 41 => ⟨S512x512x1, .f32⟩
  | 42 => ⟨S_, .f32⟩
  | 43 => ⟨S512x512x1, .f32⟩
  | 44 => ⟨S512x512x1, .f32⟩
  | 45 => ⟨S_, .i32⟩
  | 46 => ⟨S_, .f32⟩
  | 47 => ⟨S512x512, .f32⟩
  | 48 => ⟨S512x512x1, .f32⟩
  | 49 => ⟨S_, .f32⟩
  | 50 => ⟨S512x512x1, .f32⟩
  | 51 => ⟨S512x512x1, .f32⟩
  | 52 => ⟨S512x512x128, .f32⟩
  | 53 => ⟨S512x512x128, .f32⟩
  | 54 => ⟨S512x512x128, .f32⟩
  | 55 => ⟨S_, .f32⟩
  | 56 => ⟨S_, .f32⟩
  | 57 => ⟨S_, .f32⟩
  | 58 => ⟨S_, .f32⟩
  | 59 => ⟨S512x512, .f32⟩
  | 60 => ⟨S512x512x1, .f32⟩
  | 61 => ⟨S512x512x1, .f32⟩
  | 62 => ⟨S512x512x1, .f32⟩
  | 63 => ⟨S_, .f32⟩
  | 64 => ⟨S_, .i1⟩
  | 65 => ⟨S_, .f32⟩
  | 66 => ⟨S_, .f32⟩
  | 67 => ⟨S512x512x1, .f32⟩
  | 68 => ⟨S512x512x1, .f32⟩
  | 69 => ⟨S512x512x128, .f32⟩
  | 70 => ⟨S512x512x128, .f32⟩
  | 71 => ⟨S_, .f32⟩
  | 72 => ⟨S512x512x1, .f32⟩
  | 73 => ⟨S512x512x1, .f32⟩
  | 74 => ⟨S512x512x1, .f32⟩
  | 75 => ⟨S512x512x128, .f32⟩
  | 76 => ⟨S512x512x128, .f32⟩
  | 77 => ⟨S1x1x128, .f32⟩
  | 78 => ⟨S512x512x128, .f32⟩
  | 79 => ⟨S512x512x128, .f32⟩
  | 80 => ⟨S1x1x128, .f32⟩
  | 81 => ⟨S512x512x128, .f32⟩
  | 82 => ⟨S512x512x128, .f32⟩
  | 83 => ⟨S_, .f32⟩
  | 84 => ⟨S512x512x128, .f32⟩
  | 85 => ⟨S512x512x128, .f32⟩
  | 86 => ⟨S128x128, .f32⟩
  | 87 => ⟨S512x512x128, .f32⟩
  | 88 => ⟨S1x1x128, .f32⟩
  | 89 => ⟨S512x512x128, .f32⟩
  | 90 => ⟨S512x512x128, .f32⟩
  | 91 => ⟨S_, .f32⟩
  | 92 => ⟨S512x512, .f32⟩
  | 93 => ⟨S512x512x1, .f32⟩
  | 94 => ⟨S_, .f32⟩
  | 95 => ⟨S512x512x1, .f32⟩
  | 96 => ⟨S512x512x1, .f32⟩
  | 97 => ⟨S_, .i32⟩
  | 98 => ⟨S_, .f32⟩
  | 99 => ⟨S512x512, .f32⟩
  | 100 => ⟨S512x512x1, .f32⟩
  | 101 => ⟨S_, .f32⟩
  | 102 => ⟨S512x512x1, .f32⟩
  | 103 => ⟨S512x512x1, .f32⟩
  | 104 => ⟨S512x512x128, .f32⟩
  | 105 => ⟨S512x512x128, .f32⟩
  | 106 => ⟨S512x512x128, .f32⟩
  | 107 => ⟨S_, .f32⟩
  | 108 => ⟨S_, .f32⟩
  | 109 => ⟨S_, .f32⟩
  | 110 => ⟨S_, .f32⟩
  | 111 => ⟨S512x512, .f32⟩
  | 112 => ⟨S512x512x1, .f32⟩
  | 113 => ⟨S512x512x1, .f32⟩
  | 114 => ⟨S512x512x1, .f32⟩
  | 115 => ⟨S_, .f32⟩
  | 116 => ⟨S_, .i1⟩
  | 117 => ⟨S_, .f32⟩
  | 118 => ⟨S_, .f32⟩
  | 119 => ⟨S512x512x1, .f32⟩
  | 120 => ⟨S512x512x1, .f32⟩
  | 121 => ⟨S512x512x128, .f32⟩
  | 122 => ⟨S512x512x128, .f32⟩
  | 123 => ⟨S_, .f32⟩
  | 124 => ⟨S512x512x1, .f32⟩
  | 125 => ⟨S512x512x1, .f32⟩
  | 126 => ⟨S512x512x1, .f32⟩
  | 127 => ⟨S512x512x128, .f32⟩
  | _ => ⟨S512x128, .f32⟩

abbrev hbmTy0_1 (i : Nat) : BufTy := match i % 128 with
  | 0 => ⟨S512x512x128, .f32⟩
  | 1 => ⟨S1x1x128, .f32⟩
  | 2 => ⟨S512x512x128, .f32⟩
  | 3 => ⟨S512x512x128, .f32⟩
  | 4 => ⟨S1x1x128, .f32⟩
  | 5 => ⟨S512x512x128, .f32⟩
  | 6 => ⟨S512x512x128, .f32⟩
  | 7 => ⟨S_, .f32⟩
  | 8 => ⟨S512x512x128, .f32⟩
  | 9 => ⟨S512x512x128, .f32⟩
  | 10 => ⟨S512x512x128, .f32⟩
  | 11 => ⟨S_, .f32⟩
  | 12 => ⟨S512x512, .f32⟩
  | 13 => ⟨S512x512x1, .f32⟩
  | 14 => ⟨S_, .f32⟩
  | 15 => ⟨S512x512x1, .f32⟩
  | 16 => ⟨S512x512x1, .f32⟩
  | 17 => ⟨S_, .i32⟩
  | 18 => ⟨S_, .f32⟩
  | 19 => ⟨S512x512, .f32⟩
  | 20 => ⟨S512x512x1, .f32⟩
  | 21 => ⟨S_, .f32⟩
  | 22 => ⟨S512x512x1, .f32⟩
  | 23 => ⟨S512x512x1, .f32⟩
  | 24 => ⟨S512x512x128, .f32⟩
  | 25 => ⟨S512x512x128, .f32⟩
  | 26 => ⟨S512x512x128, .f32⟩
  | 27 => ⟨S_, .f32⟩
  | 28 => ⟨S_, .f32⟩
  | 29 => ⟨S_, .f32⟩
  | 30 => ⟨S_, .f32⟩
  | 31 => ⟨S512x512, .f32⟩
  | 32 => ⟨S512x512x1, .f32⟩
  | 33 => ⟨S512x512x1, .f32⟩
  | 34 => ⟨S512x512x1, .f32⟩
  | 35 => ⟨S_, .f32⟩
  | 36 => ⟨S_, .i1⟩
  | 37 => ⟨S_, .f32⟩
  | 38 => ⟨S_, .f32⟩
  | 39 => ⟨S512x512x1, .f32⟩
  | 40 => ⟨S512x512x1, .f32⟩
  | 41 => ⟨S512x512x128, .f32⟩
  | 42 => ⟨S512x512x128, .f32⟩
  | 43 => ⟨S_, .f32⟩
  | 44 => ⟨S512x512x1, .f32⟩
  | 45 => ⟨S512x512x1, .f32⟩
  | 46 => ⟨S512x512x1, .f32⟩
  | 47 => ⟨S512x512x128, .f32⟩
  | 48 => ⟨S512x512x128, .f32⟩
  | 49 => ⟨S1x1x128, .f32⟩
  | 50 => ⟨S512x512x128, .f32⟩
  | 51 => ⟨S512x512x128, .f32⟩
  | 52 => ⟨S1x1x128, .f32⟩
  | 53 => ⟨S512x512x128, .f32⟩
  | 54 => ⟨S512x512x128, .f32⟩
  | 55 => ⟨S128x128, .f32⟩
  | 56 => ⟨S512x128, .f32⟩
  | 57 => ⟨S1x128, .f32⟩
  | 58 => ⟨S512x128, .f32⟩
  | 59 => ⟨S512x128, .f32⟩
  | 60 => ⟨S512x8x16, .f32⟩
  | 61 => ⟨S128x128, .f32⟩
  | 62 => ⟨S512x512x128, .f32⟩
  | 63 => ⟨S1x1x128, .f32⟩
  | 64 => ⟨S512x512x128, .f32⟩
  | 65 => ⟨S512x512x128, .f32⟩
  | 66 => ⟨S512x512x8x16, .f32⟩
  | 67 => ⟨S128x128, .f32⟩
  | 68 => ⟨S512x512x128, .f32⟩
  | 69 => ⟨S1x1x128, .f32⟩
  | 70 => ⟨S512x512x128, .f32⟩
  | 71 => ⟨S512x512x128, .f32⟩
  | 72 => ⟨S512x512x8x16, .f32⟩
  | 73 => ⟨S512x8x512, .f32⟩
  | 74 => ⟨S_, .f32⟩
  | 75 => ⟨S512x8x512, .f32⟩
  | 76 => ⟨S512x8x512, .f32⟩
  | 77 => ⟨S512x1x512, .i1⟩
  | 78 => ⟨S_, .f32⟩
  | 79 => ⟨S_, .f32⟩
  | 80 => ⟨S512x8x512, .i1⟩
  | 81 => ⟨S512x8x512, .f32⟩
  | 82 => ⟨S512x8x512, .f32⟩
  | 83 => ⟨S_, .f32⟩
  | 84 => ⟨S512x8, .f32⟩
  | 85 => ⟨S_, .f32⟩
  | 86 => ⟨S512x8, .f32⟩
  | 87 => ⟨S512x8, .f32⟩
  | 88 => ⟨S512x8x1, .f32⟩
  | 89 => ⟨S512x8x512, .f32⟩
  | 90 => ⟨S512x8x512, .f32⟩
  | 91 => ⟨S512x8x512, .f32⟩
  | 92 => ⟨S_, .f32⟩
  | 93 => ⟨S512x8, .f32⟩
  | 94 => ⟨S512x8x1, .f32⟩
  | 95 => ⟨S512x8x512, .f32⟩
  | 96 => ⟨S512x8x512, .f32⟩
  | 97 => ⟨S512x8x16, .f32⟩
  | 98 => ⟨S512x128, .f32⟩
  | 99 => ⟨S128x128, .f32⟩
  | 100 => ⟨S512x128, .f32⟩
  | 101 => ⟨S1x128, .f32⟩
  | 102 => ⟨S512x128, .f32⟩
  | 103 => ⟨S512x128, .f32⟩
  | 104 => ⟨S512x128, .f32⟩
  | 105 => ⟨S_, .f32⟩
  | 106 => ⟨S512, .f32⟩
  | 107 => ⟨S512x1, .f32⟩
  | 108 => ⟨S_, .f32⟩
  | 109 => ⟨S512x1, .f32⟩
  | 110 => ⟨S512x1, .f32⟩
  | 111 => ⟨S_, .i32⟩
  | 112 => ⟨S_, .f32⟩
  | 113 => ⟨S512, .f32⟩
  | 114 => ⟨S512x1, .f32⟩
  | 115 => ⟨S_, .f32⟩
  | 116 => ⟨S512x1, .f32⟩
  | 117 => ⟨S512x1, .f32⟩
  | 118 => ⟨S512x128, .f32⟩
  | 119 => ⟨S512x128, .f32⟩
  | 120 => ⟨S512x128, .f32⟩
  | 121 => ⟨S_, .f32⟩
  | 122 => ⟨S_, .f32⟩
  | 123 => ⟨S_, .f32⟩
  | 124 => ⟨S_, .f32⟩
  | 125 => ⟨S512, .f32⟩
  | 126 => ⟨S512x1, .f32⟩
  | 127 => ⟨S512x1, .f32⟩
  | _ => ⟨S512x128, .f32⟩

abbrev hbmTy0_2 (i : Nat) : BufTy := match i % 128 with
  | 0 => ⟨S512x1, .f32⟩
  | 1 => ⟨S_, .f32⟩
  | 2 => ⟨S_, .i1⟩
  | 3 => ⟨S_, .f32⟩
  | 4 => ⟨S_, .f32⟩
  | 5 => ⟨S512x1, .f32⟩
  | 6 => ⟨S512x1, .f32⟩
  | 7 => ⟨S512x128, .f32⟩
  | 8 => ⟨S512x128, .f32⟩
  | 9 => ⟨S_, .f32⟩
  | 10 => ⟨S512x1, .f32⟩
  | 11 => ⟨S512x1, .f32⟩
  | 12 => ⟨S512x1, .f32⟩
  | 13 => ⟨S512x128, .f32⟩
  | 14 => ⟨S512x128, .f32⟩
  | 15 => ⟨S1x128, .f32⟩
  | 16 => ⟨S512x128, .f32⟩
  | 17 => ⟨S512x128, .f32⟩
  | 18 => ⟨S1x128, .f32⟩
  | 19 => ⟨S512x128, .f32⟩
  | 20 => ⟨S512x128, .f32⟩
  | 21 => ⟨S128x2048, .f32⟩
  | 22 => ⟨S512x2048, .f32⟩
  | 23 => ⟨S1x2048, .f32⟩
  | 24 => ⟨S512x2048, .f32⟩
  | 25 => ⟨S512x2048, .f32⟩
  | 26 => ⟨S_, .f32⟩
  | 27 => ⟨S512x2048, .f32⟩
  | 28 => ⟨S512x2048, .f32⟩
  | 29 => ⟨S2048x128, .f32⟩
  | 30 => ⟨S512x128, .f32⟩
  | 31 => ⟨S1x128, .f32⟩
  | 32 => ⟨S512x128, .f32⟩
  | 33 => ⟨S512x128, .f32⟩
  | 34 => ⟨S512x128, .f32⟩
  | 35 => ⟨S_, .f32⟩
  | 36 => ⟨S512, .f32⟩
  | 37 => ⟨S512x1, .f32⟩
  | 38 => ⟨S_, .f32⟩
  | 39 => ⟨S512x1, .f32⟩
  | 40 => ⟨S512x1, .f32⟩
  | 41 => ⟨S_, .i32⟩
  | 42 => ⟨S_, .f32⟩
  | 43 => ⟨S512, .f32⟩
  | 44 => ⟨S512x1, .f32⟩
  | 45 => ⟨S_, .f32⟩
  | 46 => ⟨S512x1, .f32⟩
  | 47 => ⟨S512x1, .f32⟩
  | 48 => ⟨S512x128, .f32⟩
  | 49 => ⟨S512x128, .f32⟩
  | 50 => ⟨S512x128, .f32⟩
  | 51 => ⟨S_, .f32⟩
  | 52 => ⟨S_, .f32⟩
  | 53 => ⟨S_, .f32⟩
  | 54 => ⟨S_, .f32⟩
  | 55 => ⟨S512, .f32⟩
  | 56 => ⟨S512x1, .f32⟩
  | 57 => ⟨S512x1, .f32⟩
  | 58 => ⟨S512x1, .f32⟩
  | 59 => ⟨S_, .f32⟩
  | 60 => ⟨S_, .i1⟩
  | 61 => ⟨S_, .f32⟩
  | 62 => ⟨S_, .f32⟩
  | 63 => ⟨S512x1, .f32⟩
  | 64 => ⟨S512x1, .f32⟩
  | 65 => ⟨S512x128, .f32⟩
  | 66 => ⟨S512x128, .f32⟩
  | 67 => ⟨S_, .f32⟩
  | 68 => ⟨S512x1, .f32⟩
  | 69 => ⟨S512x1, .f32⟩
  | 70 => ⟨S512x1, .f32⟩
  | 71 => ⟨S512x128, .f32⟩
  | 72 => ⟨S512x128, .f32⟩
  | 73 => ⟨S1x128, .f32⟩
  | 74 => ⟨S512x128, .f32⟩
  | 75 => ⟨S512x128, .f32⟩
  | 76 => ⟨S1x128, .f32⟩
  | 77 => ⟨S512x128, .f32⟩
  | 78 => ⟨S512x128, .f32⟩
  | _ => ⟨S512x128, .f32⟩

abbrev hbmTy (i : Nat) : BufTy := match i / 128 with
  | 0 => hbmTy0_0 i
  | 1 => hbmTy0_1 i
  | 2 => hbmTy0_2 i
  | _ => ⟨S512x128, .f32⟩

abbrev bufTy : (tb : Table) → Fin (tcTables nBuf tb) → BufTy
  | .hbm, ⟨i, _⟩ => hbmTy i
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_cst : Ref sig .tc := ⟨.hbm, 39, rfl⟩
abbrev main_v10 : Ref sig .tc := ⟨.hbm, 40, rfl⟩
abbrev main_v11 : Ref sig .tc := ⟨.hbm, 41, rfl⟩
abbrev main_cst_0 : Ref sig .tc := ⟨.hbm, 42, rfl⟩
abbrev main_v12 : Ref sig .tc := ⟨.hbm, 43, rfl⟩
abbrev main_v13 : Ref sig .tc := ⟨.hbm, 44, rfl⟩
abbrev main_c : Ref sig .tc := ⟨.hbm, 45, rfl⟩
abbrev main_call0_cst : Ref sig .tc := ⟨.hbm, 46, rfl⟩
abbrev main_call0_v0 : Ref sig .tc := ⟨.hbm, 47, rfl⟩
abbrev main_call0_v1 : Ref sig .tc := ⟨.hbm, 48, rfl⟩
abbrev main_call0_cst_0 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_v6 : Ref sig .tc := ⟨.hbm, 54, rfl⟩
abbrev main_call0_v7 : Ref sig .tc := ⟨.hbm, 55, rfl⟩
abbrev main_call0_cst_1 : Ref sig .tc := ⟨.hbm, 56, rfl⟩
abbrev main_call0_v8 : Ref sig .tc := ⟨.hbm, 57, rfl⟩
abbrev main_call0_cst_2 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_v12 : Ref sig .tc := ⟨.hbm, 62, rfl⟩
abbrev main_call0_cst_3 : Ref sig .tc := ⟨.hbm, 63, rfl⟩
abbrev main_call0_v13 : Ref sig .tc := ⟨.hbm, 64, rfl⟩
abbrev main_call0_cst_4 : Ref sig .tc := ⟨.hbm, 65, rfl⟩
abbrev main_call0_call0_v0 : Ref sig .tc := ⟨.hbm, 66, rfl⟩
abbrev main_call0_call0_v1 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_cst_1 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_call1_cst : Ref sig .tc := ⟨.hbm, 83, rfl⟩
abbrev main_call1_v0 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_cst_2 : Ref sig .tc := ⟨.hbm, 91, rfl⟩
abbrev main_v34 : Ref sig .tc := ⟨.hbm, 92, rfl⟩
abbrev main_v35 : Ref sig .tc := ⟨.hbm, 93, rfl⟩
abbrev main_cst_3 : Ref sig .tc := ⟨.hbm, 94, rfl⟩
abbrev main_v36 : Ref sig .tc := ⟨.hbm, 95, rfl⟩
abbrev main_v37 : Ref sig .tc := ⟨.hbm, 96, rfl⟩
abbrev main_c_4 : Ref sig .tc := ⟨.hbm, 97, rfl⟩
abbrev main_call2_cst : Ref sig .tc := ⟨.hbm, 98, rfl⟩
abbrev main_call2_v0 : Ref sig .tc := ⟨.hbm, 99, rfl⟩
abbrev main_call2_v1 : Ref sig .tc := ⟨.hbm, 100, rfl⟩
abbrev main_call2_cst_0 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_call2_v5 : Ref sig .tc := ⟨.hbm, 105, rfl⟩
abbrev main_call2_v6 : Ref sig .tc := ⟨.hbm, 106, rfl⟩
abbrev main_call2_v7 : Ref sig .tc := ⟨.hbm, 107, rfl⟩
abbrev main_call2_cst_1 : Ref sig .tc := ⟨.hbm, 108, rfl⟩
abbrev main_call2_v8 : Ref sig .tc := ⟨.hbm, 109, rfl⟩
abbrev main_call2_cst_2 : Ref sig .tc := ⟨.hbm, 110, rfl⟩
abbrev main_call2_v9 : Ref sig .tc := ⟨.hbm, 111, rfl⟩
abbrev main_call2_v10 : Ref sig .tc := ⟨.hbm, 112, rfl⟩
abbrev main_call2_v11 : Ref sig .tc := ⟨.hbm, 113, rfl⟩
abbrev main_call2_v12 : Ref sig .tc := ⟨.hbm, 114, rfl⟩
abbrev main_call2_cst_3 : Ref sig .tc := ⟨.hbm, 115, rfl⟩
abbrev main_call2_v13 : Ref sig .tc := ⟨.hbm, 116, rfl⟩
abbrev main_call2_cst_4 : Ref sig .tc := ⟨.hbm, 117, rfl⟩
abbrev main_call2_call0_v0 : Ref sig .tc := ⟨.hbm, 118, rfl⟩
abbrev main_call2_call0_v1 : Ref sig .tc := ⟨.hbm, 119, rfl⟩
abbrev main_v38 : Ref sig .tc := ⟨.hbm, 120, rfl⟩
abbrev main_v39 : Ref sig .tc := ⟨.hbm, 121, rfl⟩
abbrev main_v40 : Ref sig .tc := ⟨.hbm, 122, rfl⟩
abbrev main_cst_5 : Ref sig .tc := ⟨.hbm, 123, rfl⟩
abbrev main_v41 : Ref sig .tc := ⟨.hbm, 124, rfl⟩
abbrev main_v42 : Ref sig .tc := ⟨.hbm, 125, rfl⟩
abbrev main_v43 : Ref sig .tc := ⟨.hbm, 126, rfl⟩
abbrev main_v44 : Ref sig .tc := ⟨.hbm, 127, rfl⟩
abbrev main_v45 : Ref sig .tc := ⟨.hbm, 128, rfl⟩
abbrev main_v46 : Ref sig .tc := ⟨.hbm, 129, rfl⟩
abbrev main_v47 : Ref sig .tc := ⟨.hbm, 130, rfl⟩
abbrev main_v48 : Ref sig .tc := ⟨.hbm, 131, rfl⟩
abbrev main_v49 : Ref sig .tc := ⟨.hbm, 132, rfl⟩
abbrev main_v50 : Ref sig .tc := ⟨.hbm, 133, rfl⟩
abbrev main_v51 : Ref sig .tc := ⟨.hbm, 134, rfl⟩
abbrev main_call3_cst : Ref sig .tc := ⟨.hbm, 135, rfl⟩
abbrev main_call3_v0 : Ref sig .tc := ⟨.hbm, 136, rfl⟩
abbrev main_v52 : Ref sig .tc := ⟨.hbm, 137, rfl⟩
abbrev main_v53 : Ref sig .tc := ⟨.hbm, 138, rfl⟩
abbrev main_cst_6 : Ref sig .tc := ⟨.hbm, 139, rfl⟩
abbrev main_v54 : Ref sig .tc := ⟨.hbm, 140, rfl⟩
abbrev main_v55 : Ref sig .tc := ⟨.hbm, 141, rfl⟩
abbrev main_cst_7 : Ref sig .tc := ⟨.hbm, 142, rfl⟩
abbrev main_v56 : Ref sig .tc := ⟨.hbm, 143, rfl⟩
abbrev main_v57 : Ref sig .tc := ⟨.hbm, 144, rfl⟩
abbrev main_c_8 : Ref sig .tc := ⟨.hbm, 145, rfl⟩
abbrev main_call4_cst : Ref sig .tc := ⟨.hbm, 146, rfl⟩
abbrev main_call4_v0 : Ref sig .tc := ⟨.hbm, 147, rfl⟩
abbrev main_call4_v1 : Ref sig .tc := ⟨.hbm, 148, rfl⟩
abbrev main_call4_cst_0 : Ref sig .tc := ⟨.hbm, 149, rfl⟩
abbrev main_call4_v2 : Ref sig .tc := ⟨.hbm, 150, rfl⟩
abbrev main_call4_v3 : Ref sig .tc := ⟨.hbm, 151, rfl⟩
abbrev main_call4_v4 : Ref sig .tc := ⟨.hbm, 152, rfl⟩
abbrev main_call4_v5 : Ref sig .tc := ⟨.hbm, 153, rfl⟩
abbrev main_call4_v6 : Ref sig .tc := ⟨.hbm, 154, rfl⟩
abbrev main_call4_v7 : Ref sig .tc := ⟨.hbm, 155, rfl⟩
abbrev main_call4_cst_1 : Ref sig .tc := ⟨.hbm, 156, rfl⟩
abbrev main_call4_v8 : Ref sig .tc := ⟨.hbm, 157, rfl⟩
abbrev main_call4_cst_2 : Ref sig .tc := ⟨.hbm, 158, rfl⟩
abbrev main_call4_v9 : Ref sig .tc := ⟨.hbm, 159, rfl⟩
abbrev main_call4_v10 : Ref sig .tc := ⟨.hbm, 160, rfl⟩
abbrev main_call4_v11 : Ref sig .tc := ⟨.hbm, 161, rfl⟩
abbrev main_call4_v12 : Ref sig .tc := ⟨.hbm, 162, rfl⟩
abbrev main_call4_cst_3 : Ref sig .tc := ⟨.hbm, 163, rfl⟩
abbrev main_call4_v13 : Ref sig .tc := ⟨.hbm, 164, rfl⟩
abbrev main_call4_cst_4 : Ref sig .tc := ⟨.hbm, 165, rfl⟩
abbrev main_call4_call0_v0 : Ref sig .tc := ⟨.hbm, 166, rfl⟩
abbrev main_call4_call0_v1 : Ref sig .tc := ⟨.hbm, 167, rfl⟩
abbrev main_v58 : Ref sig .tc := ⟨.hbm, 168, rfl⟩
abbrev main_v59 : Ref sig .tc := ⟨.hbm, 169, rfl⟩
abbrev main_v60 : Ref sig .tc := ⟨.hbm, 170, rfl⟩
abbrev main_cst_9 : Ref sig .tc := ⟨.hbm, 171, rfl⟩
abbrev main_v61 : Ref sig .tc := ⟨.hbm, 172, rfl⟩
abbrev main_v62 : Ref sig .tc := ⟨.hbm, 173, rfl⟩
abbrev main_v63 : Ref sig .tc := ⟨.hbm, 174, rfl⟩
abbrev main_v64 : Ref sig .tc := ⟨.hbm, 175, rfl⟩
abbrev main_v65 : Ref sig .tc := ⟨.hbm, 176, rfl⟩
abbrev main_v66 : Ref sig .tc := ⟨.hbm, 177, rfl⟩
abbrev main_v67 : Ref sig .tc := ⟨.hbm, 178, rfl⟩
abbrev main_v68 : Ref sig .tc := ⟨.hbm, 179, rfl⟩
abbrev main_v69 : Ref sig .tc := ⟨.hbm, 180, rfl⟩
abbrev main_v70 : Ref sig .tc := ⟨.hbm, 181, rfl⟩
abbrev main_v71 : Ref sig .tc := ⟨.hbm, 182, rfl⟩
abbrev main_v72 : Ref sig .tc := ⟨.hbm, 183, rfl⟩
abbrev main_v73 : Ref sig .tc := ⟨.hbm, 184, rfl⟩
abbrev main_v74 : Ref sig .tc := ⟨.hbm, 185, rfl⟩
abbrev main_v75 : Ref sig .tc := ⟨.hbm, 186, rfl⟩
abbrev main_v76 : Ref sig .tc := ⟨.hbm, 187, rfl⟩
abbrev main_v77 : Ref sig .tc := ⟨.hbm, 188, rfl⟩
abbrev main_v78 : Ref sig .tc := ⟨.hbm, 189, rfl⟩
abbrev main_v79 : Ref sig .tc := ⟨.hbm, 190, rfl⟩
abbrev main_v80 : Ref sig .tc := ⟨.hbm, 191, rfl⟩
abbrev main_v81 : Ref sig .tc := ⟨.hbm, 192, rfl⟩
abbrev main_v82 : Ref sig .tc := ⟨.hbm, 193, rfl⟩
abbrev main_v83 : Ref sig .tc := ⟨.hbm, 194, rfl⟩
abbrev main_v84 : Ref sig .tc := ⟨.hbm, 195, rfl⟩
abbrev main_v85 : Ref sig .tc := ⟨.hbm, 196, rfl⟩
abbrev main_v86 : Ref sig .tc := ⟨.hbm, 197, rfl⟩
abbrev main_v87 : Ref sig .tc := ⟨.hbm, 198, rfl⟩
abbrev main_v88 : Ref sig .tc := ⟨.hbm, 199, rfl⟩
abbrev main_v89 : Ref sig .tc := ⟨.hbm, 200, rfl⟩
abbrev main_v90 : Ref sig .tc := ⟨.hbm, 201, rfl⟩
abbrev main_cst_10 : Ref sig .tc := ⟨.hbm, 202, rfl⟩
abbrev main_v91 : Ref sig .tc := ⟨.hbm, 203, rfl⟩
abbrev main_v92 : Ref sig .tc := ⟨.hbm, 204, rfl⟩
abbrev main_v93 : Ref sig .tc := ⟨.hbm, 205, rfl⟩
abbrev main_cst_11 : Ref sig .tc := ⟨.hbm, 206, rfl⟩
abbrev main_call5_v0 : Ref sig .tc := ⟨.hbm, 207, rfl⟩
abbrev main_call5_v1 : Ref sig .tc := ⟨.hbm, 208, rfl⟩
abbrev main_call5_v2 : Ref sig .tc := ⟨.hbm, 209, rfl⟩
abbrev main_v94 : Ref sig .tc := ⟨.hbm, 210, rfl⟩
abbrev main_cst_12 : Ref sig .tc := ⟨.hbm, 211, rfl⟩
abbrev main_v95 : Ref sig .tc := ⟨.hbm, 212, rfl⟩
abbrev main_cst_13 : Ref sig .tc := ⟨.hbm, 213, rfl⟩
abbrev main_v96 : Ref sig .tc := ⟨.hbm, 214, rfl⟩
abbrev main_v97 : Ref sig .tc := ⟨.hbm, 215, rfl⟩
abbrev main_v98 : Ref sig .tc := ⟨.hbm, 216, rfl⟩
abbrev main_v99 : Ref sig .tc := ⟨.hbm, 217, rfl⟩
abbrev main_v100 : Ref sig .tc := ⟨.hbm, 218, rfl⟩
abbrev main_v101 : Ref sig .tc := ⟨.hbm, 219, rfl⟩
abbrev main_cst_14 : Ref sig .tc := ⟨.hbm, 220, rfl⟩
abbrev main_v102 : Ref sig .tc := ⟨.hbm, 221, rfl⟩
abbrev main_v103 : Ref sig .tc := ⟨.hbm, 222, rfl⟩
abbrev main_v104 : Ref sig .tc := ⟨.hbm, 223, rfl⟩
abbrev main_v105 : Ref sig .tc := ⟨.hbm, 224, rfl⟩
abbrev main_v106 : Ref sig .tc := ⟨.hbm, 225, rfl⟩
abbrev main_v107 : Ref sig .tc := ⟨.hbm, 226, rfl⟩
abbrev main_v108 : Ref sig .tc := ⟨.hbm, 227, rfl⟩
abbrev main_v109 : Ref sig .tc := ⟨.hbm, 228, rfl⟩
abbrev main_v110 : Ref sig .tc := ⟨.hbm, 229, rfl⟩
abbrev main_v111 : Ref sig .tc := ⟨.hbm, 230, rfl⟩
abbrev main_v112 : Ref sig .tc := ⟨.hbm, 231, rfl⟩
abbrev main_v113 : Ref sig .tc := ⟨.hbm, 232, rfl⟩
abbrev main_cst_15 : Ref sig .tc := ⟨.hbm, 233, rfl⟩
abbrev main_v114 : Ref sig .tc := ⟨.hbm, 234, rfl⟩
abbrev main_v115 : Ref sig .tc := ⟨.hbm, 235, rfl⟩
abbrev main_cst_16 : Ref sig .tc := ⟨.hbm, 236, rfl⟩
abbrev main_v116 : Ref sig .tc := ⟨.hbm, 237, rfl⟩
abbrev main_v117 : Ref sig .tc := ⟨.hbm, 238, rfl⟩
abbrev main_c_17 : Ref sig .tc := ⟨.hbm, 239, rfl⟩
abbrev main_call6_cst : Ref sig .tc := ⟨.hbm, 240, rfl⟩
abbrev main_call6_v0 : Ref sig .tc := ⟨.hbm, 241, rfl⟩
abbrev main_call6_v1 : Ref sig .tc := ⟨.hbm, 242, rfl⟩
abbrev main_call6_cst_0 : Ref sig .tc := ⟨.hbm, 243, rfl⟩
abbrev main_call6_v2 : Ref sig .tc := ⟨.hbm, 244, rfl⟩
abbrev main_call6_v3 : Ref sig .tc := ⟨.hbm, 245, rfl⟩
abbrev main_call6_v4 : Ref sig .tc := ⟨.hbm, 246, rfl⟩
abbrev main_call6_v5 : Ref sig .tc := ⟨.hbm, 247, rfl⟩
abbrev main_call6_v6 : Ref sig .tc := ⟨.hbm, 248, rfl⟩
abbrev main_call6_v7 : Ref sig .tc := ⟨.hbm, 249, rfl⟩
abbrev main_call6_cst_1 : Ref sig .tc := ⟨.hbm, 250, rfl⟩
abbrev main_call6_v8 : Ref sig .tc := ⟨.hbm, 251, rfl⟩
abbrev main_call6_cst_2 : Ref sig .tc := ⟨.hbm, 252, rfl⟩
abbrev main_call6_v9 : Ref sig .tc := ⟨.hbm, 253, rfl⟩
abbrev main_call6_v10 : Ref sig .tc := ⟨.hbm, 254, rfl⟩
abbrev main_call6_v11 : Ref sig .tc := ⟨.hbm, 255, rfl⟩
abbrev main_call6_v12 : Ref sig .tc := ⟨.hbm, 256, rfl⟩
abbrev main_call6_cst_3 : Ref sig .tc := ⟨.hbm, 257, rfl⟩
abbrev main_call6_v13 : Ref sig .tc := ⟨.hbm, 258, rfl⟩
abbrev main_call6_cst_4 : Ref sig .tc := ⟨.hbm, 259, rfl⟩
abbrev main_call6_call0_v0 : Ref sig .tc := ⟨.hbm, 260, rfl⟩
abbrev main_call6_call0_v1 : Ref sig .tc := ⟨.hbm, 261, rfl⟩
abbrev main_v118 : Ref sig .tc := ⟨.hbm, 262, rfl⟩
abbrev main_v119 : Ref sig .tc := ⟨.hbm, 263, rfl⟩
abbrev main_v120 : Ref sig .tc := ⟨.hbm, 264, rfl⟩
abbrev main_cst_18 : Ref sig .tc := ⟨.hbm, 265, rfl⟩
abbrev main_v121 : Ref sig .tc := ⟨.hbm, 266, rfl⟩
abbrev main_v122 : Ref sig .tc := ⟨.hbm, 267, rfl⟩
abbrev main_v123 : Ref sig .tc := ⟨.hbm, 268, rfl⟩
abbrev main_v124 : Ref sig .tc := ⟨.hbm, 269, rfl⟩
abbrev main_v125 : Ref sig .tc := ⟨.hbm, 270, rfl⟩
abbrev main_v126 : Ref sig .tc := ⟨.hbm, 271, rfl⟩
abbrev main_v127 : Ref sig .tc := ⟨.hbm, 272, rfl⟩
abbrev main_v128 : Ref sig .tc := ⟨.hbm, 273, rfl⟩
abbrev main_v129 : Ref sig .tc := ⟨.hbm, 274, rfl⟩
abbrev main_v130 : Ref sig .tc := ⟨.hbm, 275, rfl⟩
abbrev main_v131 : Ref sig .tc := ⟨.hbm, 276, rfl⟩
abbrev main_v132 : Ref sig .tc := ⟨.hbm, 277, rfl⟩
abbrev main_v133 : Ref sig .tc := ⟨.hbm, 278, rfl⟩
abbrev main_v134 : Ref sig .tc := ⟨.hbm, 279, rfl⟩
abbrev main_v135 : Ref sig .tc := ⟨.hbm, 280, rfl⟩
abbrev main_v136 : Ref sig .tc := ⟨.hbm, 281, rfl⟩
abbrev main_call7_cst : Ref sig .tc := ⟨.hbm, 282, rfl⟩
abbrev main_call7_v0 : Ref sig .tc := ⟨.hbm, 283, rfl⟩
abbrev main_v137 : Ref sig .tc := ⟨.hbm, 284, rfl⟩
abbrev main_v138 : Ref sig .tc := ⟨.hbm, 285, rfl⟩
abbrev main_v139 : Ref sig .tc := ⟨.hbm, 286, rfl⟩
abbrev main_v140 : Ref sig .tc := ⟨.hbm, 287, rfl⟩
abbrev main_v141 : Ref sig .tc := ⟨.hbm, 288, rfl⟩
abbrev main_v142 : Ref sig .tc := ⟨.hbm, 289, rfl⟩
abbrev main_v143 : Ref sig .tc := ⟨.hbm, 290, rfl⟩
abbrev main_cst_19 : Ref sig .tc := ⟨.hbm, 291, rfl⟩
abbrev main_v144 : Ref sig .tc := ⟨.hbm, 292, rfl⟩
abbrev main_v145 : Ref sig .tc := ⟨.hbm, 293, rfl⟩
abbrev main_cst_20 : Ref sig .tc := ⟨.hbm, 294, rfl⟩
abbrev main_v146 : Ref sig .tc := ⟨.hbm, 295, rfl⟩
abbrev main_v147 : Ref sig .tc := ⟨.hbm, 296, rfl⟩
abbrev main_c_21 : Ref sig .tc := ⟨.hbm, 297, rfl⟩
abbrev main_call8_cst : Ref sig .tc := ⟨.hbm, 298, rfl⟩
abbrev main_call8_v0 : Ref sig .tc := ⟨.hbm, 299, rfl⟩
abbrev main_call8_v1 : Ref sig .tc := ⟨.hbm, 300, rfl⟩
abbrev main_call8_cst_0 : Ref sig .tc := ⟨.hbm, 301, rfl⟩
abbrev main_call8_v2 : Ref sig .tc := ⟨.hbm, 302, rfl⟩
abbrev main_call8_v3 : Ref sig .tc := ⟨.hbm, 303, rfl⟩
abbrev main_call8_v4 : Ref sig .tc := ⟨.hbm, 304, rfl⟩
abbrev main_call8_v5 : Ref sig .tc := ⟨.hbm, 305, rfl⟩
abbrev main_call8_v6 : Ref sig .tc := ⟨.hbm, 306, rfl⟩
abbrev main_call8_v7 : Ref sig .tc := ⟨.hbm, 307, rfl⟩
abbrev main_call8_cst_1 : Ref sig .tc := ⟨.hbm, 308, rfl⟩
abbrev main_call8_v8 : Ref sig .tc := ⟨.hbm, 309, rfl⟩
abbrev main_call8_cst_2 : Ref sig .tc := ⟨.hbm, 310, rfl⟩
abbrev main_call8_v9 : Ref sig .tc := ⟨.hbm, 311, rfl⟩
abbrev main_call8_v10 : Ref sig .tc := ⟨.hbm, 312, rfl⟩
abbrev main_call8_v11 : Ref sig .tc := ⟨.hbm, 313, rfl⟩
abbrev main_call8_v12 : Ref sig .tc := ⟨.hbm, 314, rfl⟩
abbrev main_call8_cst_3 : Ref sig .tc := ⟨.hbm, 315, rfl⟩
abbrev main_call8_v13 : Ref sig .tc := ⟨.hbm, 316, rfl⟩
abbrev main_call8_cst_4 : Ref sig .tc := ⟨.hbm, 317, rfl⟩
abbrev main_call8_call0_v0 : Ref sig .tc := ⟨.hbm, 318, rfl⟩
abbrev main_call8_call0_v1 : Ref sig .tc := ⟨.hbm, 319, rfl⟩
abbrev main_v148 : Ref sig .tc := ⟨.hbm, 320, rfl⟩
abbrev main_v149 : Ref sig .tc := ⟨.hbm, 321, rfl⟩
abbrev main_v150 : Ref sig .tc := ⟨.hbm, 322, rfl⟩
abbrev main_cst_22 : Ref sig .tc := ⟨.hbm, 323, rfl⟩
abbrev main_v151 : Ref sig .tc := ⟨.hbm, 324, rfl⟩
abbrev main_v152 : Ref sig .tc := ⟨.hbm, 325, rfl⟩
abbrev main_v153 : Ref sig .tc := ⟨.hbm, 326, rfl⟩
abbrev main_v154 : Ref sig .tc := ⟨.hbm, 327, rfl⟩
abbrev main_v155 : Ref sig .tc := ⟨.hbm, 328, rfl⟩
abbrev main_v156 : Ref sig .tc := ⟨.hbm, 329, rfl⟩
abbrev main_v157 : Ref sig .tc := ⟨.hbm, 330, rfl⟩
abbrev main_v158 : Ref sig .tc := ⟨.hbm, 331, rfl⟩
abbrev main_v159 : Ref sig .tc := ⟨.hbm, 332, rfl⟩
abbrev main_v160 : Ref sig .tc := ⟨.hbm, 333, rfl⟩
abbrev main_v161 : Ref sig .tc := ⟨.hbm, 334, rfl⟩

abbrev nD : Nat := 1
abbrev τ : Topo := Topo.v7x

variable {F : FTy → Type} [FloatOps F]
-- ==== Proof.Run.lean ====
/- The kernel's run with its results: from any memory and zero counters the program terminates, the two result arrays hold
   what the last boundary of its run holds, every argument is unchanged, every counter is zero. The launch is the one the
   frame is proved by; only what is read off the final state differs. -/
module

public import proofs.«01_k».proof.Proof.Gen.KernelIdeal.Frame

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run of the kernel ends with the node result and the edge result at the contents `W12` gives them, the arguments as
    launched and the counters at zero. -/
theorem run : θ_run defs (onTc (τ := τ) (main (F := Ideal))) ⟨m, fun _ => 0, ρ⟩ (fun r => (∀ c : Dev nD,
      r.2.mem ((c.tc : Thread nD τ).loc main_v23) = W12 m ρ c (Proc.devRef .tc main_v23)
      ∧ r.2.mem ((c.tc : Thread nD τ).loc main_v18_0) = W12 m ρ c (Proc.devRef .tc main_v18_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => ⟨(fun c =>
      ⟨h c _ (mem_uc main_v23 (by decide)),
       h c _ (mem_uc main_v18_0 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c),
       (h c _ (mem_uc main_arg19 (by decide))).trans (W12_main_arg19 m ρ c),
       (h c _ (mem_uc main_arg20 (by decide))).trans (W12_main_arg20 m ρ c),
       (h c _ (mem_uc main_arg21 (by decide))).trans (W12_main_arg21 m ρ c),
       (h c _ (mem_uc main_arg22 (by decide))).trans (W12_main_arg22 m ρ c),
       (h c _ (mem_uc main_arg23 (by decide))).trans (W12_main_arg23 m ρ c),
       (h c _ (mem_uc main_arg24 (by decide))).trans (W12_main_arg24 m ρ c),
       (h c _ (mem_uc main_arg25 (by decide))).trans (W12_main_arg25 m ρ c),
       (h c _ (mem_uc main_arg26 (by decide))).trans (W12_main_arg26 m ρ c),
       (h c _ (mem_uc main_arg27 (by decide))).trans (W12_main_arg27 m ρ c),
       (h c _ (mem_uc main_arg28 (by decide))).trans (W12_main_arg28 m ρ c)⟩), funext fun g => hz g (.inr (no_unscoped g.2))⟩)

end Cert.KernelIdeal.Value

end
-- ==== Proof.Scalar.lean ====
/- The programs' scalar operations on extended reals. On real numbers each gives the real number that mathematics gives. Layer
   normalisation gives a real number whatever the features are, and both spellings of it, the kernel's and the reference's,
   give the same. -/
module

public import Idealize.ShloMosaic.PureOps.Ideal.Laws

@[expose] public section

noncomputable section

namespace Cert.Layer

open Idealize.ShloMosaic

/-- A vector of 128 features. -/
abbrev Row := Fin 128 → ℝ

/-- The features' mean. -/
def mean (x : Row) : ℝ := (∑ k, x k) / 128

/-- The features' variance about their mean. -/
def var (x : Row) : ℝ := (∑ k, (x k - mean x) * (x k - mean x)) / 128

/-- What layer normalisation adds to the variance: the number nearest to 1e-5 in single precision. -/
def eps : ℝ := 10995116 / 2 ^ 40

/-- The positive part. -/
def relu (a : ℝ) : ℝ := max a 0

theorem var_nonneg (x : Row) : 0 ≤ var x := by
  unfold var
  exact div_nonneg (Finset.sum_nonneg fun k _ => mul_self_nonneg _) (by norm_num)

theorem eps_pos : 0 < eps := by unfold eps; norm_num

theorem var_eps_pos (x : Row) : 0 < var x + eps := add_pos_of_nonneg_of_pos (var_nonneg x) eps_pos

/-- A sum of real numbers, taken among the extended reals. -/
theorem sum_coe {ι : Type*} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- The greater of two real numbers. -/
theorem max_coe (a b : ℝ) : max (a : EReal) (b : EReal) = ((max a b : ℝ) : EReal) :=
  (EReal.coe_strictMono.monotone.map_max (a := a) (b := b)).symm

/-- The positive part of a real number. -/
theorem max_coe_zero (a : ℝ) : max (a : EReal) 0 = ((relu a : ℝ) : EReal) := max_coe a 0

/-- A quotient of real numbers whose divisor is not zero. -/
theorem div_coe {a b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The pattern of 128. -/
theorem ofBits_128 : Ideal.ofBits .f32 1124073472#32 = ((128 : ℝ) : EReal) := by
  simp [Ideal.ofBits, Ideal.ieee, -EReal.coe_mul]; norm_num

/-- The pattern of `eps`. -/
theorem ofBits_eps : Ideal.ofBits .f32 925353388#32 = ((eps : ℝ) : EReal) := by
  unfold eps
  simp [Ideal.ofBits, Ideal.ieee, -EReal.coe_mul]; norm_num

/-- The pattern of 4. -/
theorem ofBits_4 : Ideal.ofBits .f32 1082130432#32 = ((4 : ℝ) : EReal) := by
  simp [Ideal.ofBits, Ideal.ieee, -EReal.coe_mul]; norm_num

/-- The pattern of one. -/
theorem ofBits_1 : Ideal.ofBits .f32 1065353216#32 = 1 := by
  simp [Ideal.ofBits, Ideal.ieee, -EReal.coe_mul]; norm_num

/-- The features' mean as both programs take it. -/
def emean (x : Fin 128 → EReal) : EReal := Ideal.div (∑ k, x k) (Ideal.ofBits .f32 1124073472#32)

/-- The features' variance as both programs take it. -/
def evar (x : Fin 128 → EReal) : EReal :=
  Ideal.div (∑ k, (x k - emean x) * (x k - emean x)) (Ideal.ofBits .f32 1124073472#32)

/-- Layer normalisation as the kernel computes it. -/
def enorm (x : Fin 128 → EReal) (d : Fin 128) : EReal :=
  (x d - emean x) * Ideal.rsqrt (evar x + Ideal.ofBits .f32 925353388#32)

/-- Layer normalisation as the reference computes it. -/
def rnorm (x : Fin 128 → EReal) (d : Fin 128) : EReal :=
  Ideal.div (x d - emean x) (Ideal.sqrt (evar x + Ideal.ofBits .f32 925353388#32))

theorem emean_coe (x : Row) : emean (fun k => (x k : EReal)) = ((mean x : ℝ) : EReal) := by
  unfold emean mean
  rw [sum_coe, ofBits_128, div_coe (by norm_num)]

theorem evar_coe (x : Row) : evar (fun k => (x k : EReal)) = ((var x : ℝ) : EReal) := by
  unfold evar var
  rw [emean_coe]
  simp only [← EReal.coe_sub, ← EReal.coe_mul]
  rw [sum_coe, ofBits_128, div_coe (by norm_num)]

/-- Layer normalisation with gain one and shift zero: a real number (`enorm_eq`). -/
def norm (x : Fin 128 → EReal) (d : Fin 128) : ℝ := (enorm x d).toReal

/-- The kernel's layer normalisation of real features. -/
theorem enorm_coe (x : Row) (d : Fin 128) :
    enorm (fun k => (x k : EReal)) d = (((x d - mean x) / Real.sqrt (var x + eps) : ℝ) : EReal) := by
  unfold enorm
  rw [emean_coe, evar_coe, ofBits_eps, ← EReal.coe_add, Ideal.rsqrt_coe]
  have h := var_eps_pos x
  rw [if_neg (not_lt.mpr h.le), if_neg h.ne']
  rw [← EReal.coe_sub, ← EReal.coe_mul, div_eq_mul_inv]

/-- The reference's layer normalisation of real features. -/
theorem rnorm_coe (x : Row) (d : Fin 128) :
    rnorm (fun k => (x k : EReal)) d = (((x d - mean x) / Real.sqrt (var x + eps) : ℝ) : EReal) := by
  unfold rnorm
  have h := var_eps_pos x
  rw [emean_coe, evar_coe, ofBits_eps, ← EReal.coe_add, Ideal.sqrt_coe]
  rw [if_neg (not_lt.mpr h.le), ← EReal.coe_sub, div_coe (Real.sqrt_pos.mpr h).ne']

/-- Features are real numbers, or one of them is infinite. -/
theorem real_or_infinite (x : Fin 128 → EReal) : (∃ f : Row, x = fun k => (f k : EReal)) ∨ ∃ k, x k = ⊤ ∨ x k = ⊥ := by
  by_cases h : ∃ k, x k = ⊤ ∨ x k = ⊥
  · exact Or.inr h
  · push Not at h
    exact Or.inl ⟨fun k => (x k).toReal, funext fun k => (EReal.coe_toReal (h k).1 (h k).2).symm⟩

/-- A square is not negative. -/
theorem mul_self_nonneg' (y : EReal) : 0 ≤ y * y := by
  rcases le_total 0 y with h | h
  · exact EReal.mul_nonneg h h
  · rw [← neg_mul_neg]
    exact EReal.mul_nonneg (EReal.neg_nonneg.mpr h) (EReal.neg_nonneg.mpr h)

/-- The variance of features one of which is infinite is infinite. -/
theorem evar_of_infinite {x : Fin 128 → EReal} (h : ∃ k, x k = ⊤ ∨ x k = ⊥) : evar x = ⊤ := by
  obtain ⟨k, hk⟩ := h
  have hy : x k - emean x = ⊤ ∨ x k - emean x = ⊥ := by
    rcases hk with hk | hk <;> rw [hk]
    · induction emean x using EReal.rec <;> simp
    · exact Or.inr (EReal.bot_sub _)
  have hs : (x k - emean x) * (x k - emean x) = ⊤ := by
    rcases hy with hy | hy <;> rw [hy]
    · exact EReal.top_mul_top
    · exact EReal.bot_mul_bot
  have ht : ∑ i, (x i - emean x) * (x i - emean x) = ⊤ := by
    refine top_le_iff.mp (hs ▸ ?_)
    exact Finset.single_le_sum (f := fun i => (x i - emean x) * (x i - emean x)) (fun i _ => mul_self_nonneg' _)
      (Finset.mem_univ k)
  unfold evar Ideal.div
  rw [ht, ofBits_128, if_neg (by exact_mod_cast (by norm_num : (128 : ℝ) ≠ 0)), ← EReal.coe_inv]
  exact EReal.top_mul_coe_of_pos (by norm_num)

/-- The kernel's layer normalisation of features one of which is infinite is zero. -/
theorem enorm_of_infinite {x : Fin 128 → EReal} (h : ∃ k, x k = ⊤ ∨ x k = ⊥) (d : Fin 128) : enorm x d = 0 := by
  unfold enorm
  rw [evar_of_infinite h, ofBits_eps, EReal.top_add_coe, Ideal.rsqrt_top, mul_zero]

/-- The reference's layer normalisation of features one of which is infinite is zero. -/
theorem rnorm_of_infinite {x : Fin 128 → EReal} (h : ∃ k, x k = ⊤ ∨ x k = ⊥) (d : Fin 128) : rnorm x d = 0 := by
  unfold rnorm Ideal.div
  rw [evar_of_infinite h, ofBits_eps, EReal.top_add_coe, Ideal.sqrt_top, if_neg (by simp), EReal.inv_top, mul_zero]

/-- The kernel's layer normalisation is `norm`. -/
theorem enorm_eq (x : Fin 128 → EReal) (d : Fin 128) : enorm x d = ((norm x d : ℝ) : EReal) := by
  unfold norm
  rcases real_or_infinite x with ⟨f, rfl⟩ | h
  · rw [enorm_coe, EReal.toReal_coe]
  · rw [enorm_of_infinite h, EReal.toReal_zero, EReal.coe_zero]

/-- The reference's layer normalisation is `norm`. -/
theorem rnorm_eq (x : Fin 128 → EReal) (d : Fin 128) : rnorm x d = ((norm x d : ℝ) : EReal) := by
  rw [← enorm_eq]
  rcases real_or_infinite x with ⟨f, rfl⟩ | h
  · rw [enorm_coe, rnorm_coe]
  · rw [enorm_of_infinite h, rnorm_of_infinite h]

/-- Layer normalisation of features one of which is infinite is zero. -/
theorem norm_of_infinite {x : Fin 128 → EReal} (h : ∃ k, x k = ⊤ ∨ x k = ⊥) (d : Fin 128) : norm x d = 0 := by
  unfold norm
  rw [enorm_of_infinite h, EReal.toReal_zero]

/-- Nothing added to an infinite value makes it a real number. -/
theorem infinite_add {a : EReal} (h : a = ⊤ ∨ a = ⊥) (b : EReal) : a + b = ⊤ ∨ a + b = ⊥ := by
  rcases h with rfl | rfl
  · induction b using EReal.rec <;> simp
  · exact Or.inr (EReal.bot_add _)

/-- A sum of real numbers that are not negative times an extended real. -/
theorem sum_mul_of_nonneg {ι : Type*} (s : Finset ι) (f : ι → ℝ) (hf : ∀ k, 0 ≤ f k) (y : EReal) :
    ((∑ k ∈ s, f k : ℝ) : EReal) * y = ∑ k ∈ s, (f k : EReal) * y := by
  classical
  induction s using Finset.induction_on with
  | empty => simp
  | insert a s ha ih =>
    rw [Finset.sum_insert ha, Finset.sum_insert ha, EReal.coe_add, EReal.right_distrib_of_nonneg, ih]
    · exact_mod_cast hf a
    · exact_mod_cast Finset.sum_nonneg fun k _ => hf k

/-- A real number that is not negative times a sum of extended reals. -/
theorem mul_sum_of_nonneg {ι : Type*} (s : Finset ι) {r : ℝ} (hr : 0 ≤ r) (f : ι → EReal) :
    (r : EReal) * ∑ k ∈ s, f k = ∑ k ∈ s, (r : EReal) * f k := by
  classical
  induction s using Finset.induction_on with
  | empty => simp
  | insert a s ha ih =>
    rw [Finset.sum_insert ha, Finset.sum_insert ha,
      EReal.left_distrib_of_nonneg_of_ne_top (by exact_mod_cast hr) (EReal.coe_ne_top r), ih]

end Cert.Layer

end
-- ==== Proof.Math.lean ====
/- The layer's mathematics: what both programs are shown to compute. The data may hold infinities; layer normalisation gives real
   numbers even of those, so that the memories, the updates and both results are arrays of real numbers. Nothing here mentions
   a program. -/
module

public import proofs.«01_k».proof.Proof.Scalar

@[expose] public section

noncomputable section

namespace Cert.Layer

/-- The layer's data and weights, real numbers in the queries' and the keys' weights and extended reals elsewhere. `Wpm` acts on an edge's features, then the source's, then the target's. -/
structure Data where
  node : Fin 512 → Fin 128 → EReal
  edge : Fin 512 → Fin 512 → Fin 128 → EReal
  Wpm : Fin 128 → Fin 384 → EReal
  Wpe : Fin 128 → Fin 128 → EReal
  Wq : Fin 128 → Fin 128 → ℝ
  Wk : Fin 128 → Fin 128 → ℝ
  bk : Fin 128 → ℝ
  Wv : Fin 128 → Fin 128 → EReal
  Wo : Fin 128 → Fin 128 → EReal
  W1 : Fin 2048 → Fin 128 → EReal
  W2 : Fin 128 → Fin 2048 → EReal

/-- The head a feature belongs to: heads are runs of sixteen features. -/
def head (e : Fin 128) : Fin 8 := ⟨e.val / 16, by omega⟩

/-- The `t`-th feature of head `h`. -/
def feat (h : Fin 8) (t : Fin 16) : Fin 128 := ⟨h.val * 16 + t.val, by omega⟩

namespace Data

variable (P : Data)

/-- What the edge from `i` to `j` contributes to its memory before normalisation. -/
def preEdge (j i : Fin 512) (d : Fin 128) : EReal := ∑ k : Fin 128, P.edge j i k * P.Wpm d ⟨k.val, by omega⟩

/-- What node `i` as a source contributes. -/
def preSrc (i : Fin 512) (d : Fin 128) : EReal := ∑ k : Fin 128, P.node i k * P.Wpm d ⟨128 + k.val, by omega⟩

/-- What node `j` as a target contributes. -/
def preTar (j : Fin 512) (d : Fin 128) : EReal := ∑ k : Fin 128, P.node j k * P.Wpm d ⟨256 + k.val, by omega⟩

/-- The memory of the pair before normalisation. -/
def pre (j i : Fin 512) (d : Fin 128) : EReal := P.preEdge j i d + P.preSrc i d + P.preTar j d

/-- The memory of the pair. -/
def mem (j i : Fin 512) (d : Fin 128) : ℝ := relu (norm (P.pre j i) d)

/-- The edge's update before normalisation. -/
def updPre (j i : Fin 512) (d : Fin 128) : EReal := ∑ k, (P.mem j i k : EReal) * P.Wpe d k

/-- The edge's update. -/
def upd (j i : Fin 512) (d : Fin 128) : ℝ := relu (norm (P.updPre j i) d)

/-- The second result: the new edge. -/
def enew (j i : Fin 512) (d : Fin 128) : ℝ := norm (fun e => P.edge j i e + (P.upd j i e : EReal)) d

/-- The node's features are real numbers. -/
def RealNode (i : Fin 512) : Prop := ∀ k, P.node i k = ((P.node i k).toReal : EReal)

/-- The queries of a node of real features. -/
def query (i : Fin 512) (e : Fin 128) : ℝ := ∑ k, (P.node i k).toReal * P.Wq e k

/-- The keys, without their bias. -/
def key (j i : Fin 512) (e : Fin 128) : ℝ := ∑ k, P.mem j i k * P.Wk e k

/-- The values. -/
def value (j i : Fin 512) (e : Fin 128) : EReal := ∑ k, (P.mem j i k : EReal) * P.Wv e k

/-- The score of memory `j` for node `i` under head `h`, without the keys' bias. -/
def score (i : Fin 512) (h : Fin 8) (j : Fin 512) : ℝ :=
  (∑ t, P.query i (feat h t) * P.key j i (feat h t)) / 4

/-- The sum of a head's exponentiated scores. -/
def total (i : Fin 512) (h : Fin 8) : ℝ := ∑ j, Real.exp (P.score i h j)

/-- The attention weight of memory `j`. -/
def weight (i : Fin 512) (h : Fin 8) (j : Fin 512) : ℝ := Real.exp (P.score i h j) / P.total i h

/-- The attention's output before its projection. -/
def attn (i : Fin 512) (e : Fin 128) : EReal := ∑ j, (P.weight i (head e) j : EReal) * P.value j i e

/-- The node after attention, normalised. It is zero where the node's features are not all real numbers (`mid_of_infinite`), so that
    the queries and the attention of such a node do not matter. -/
def mid (i : Fin 512) (d : Fin 128) : ℝ := norm (fun c => P.node i c + ∑ e, P.attn i e * P.Wo c e) d

/-- The feed-forward block's hidden units. -/
def hidden (i : Fin 512) (f : Fin 2048) : EReal := max (∑ d, (P.mid i d : EReal) * P.W1 f d) 0

/-- The first result: the new node. -/
def out (i : Fin 512) (d : Fin 128) : ℝ := norm (fun c => (P.mid i c : EReal) + ∑ f, P.hidden i f * P.W2 c f) d

theorem total_pos (i : Fin 512) (h : Fin 8) : 0 < P.total i h :=
  Finset.sum_pos (fun _ _ => Real.exp_pos _) ⟨0, Finset.mem_univ _⟩

theorem weight_nonneg (i : Fin 512) (h : Fin 8) (j : Fin 512) : 0 ≤ P.weight i h j :=
  div_nonneg (Real.exp_pos _).le (P.total_pos i h).le

theorem mem_nonneg (j i : Fin 512) (d : Fin 128) : 0 ≤ P.mem j i d := le_max_right _ _

/-- A node whose features are not all real numbers has an infinite one. -/
theorem infinite_of_not_real {i : Fin 512} (h : ¬ P.RealNode i) (X : Fin 128 → EReal) :
    ∃ k, P.node i k + X k = ⊤ ∨ P.node i k + X k = ⊥ := by
  rcases real_or_infinite (P.node i) with ⟨f, hf⟩ | ⟨k, hk⟩
  · exact absurd (fun k => by rw [hf, EReal.toReal_coe]) h
  · exact ⟨k, infinite_add hk _⟩

/-- Whatever is added to a node whose features are not all real numbers, normalising the sum gives `mid`. -/
theorem mid_of_infinite {i : Fin 512} (h : ¬ P.RealNode i) (X : Fin 128 → EReal) (d : Fin 128) :
    norm (fun c => P.node i c + X c) d = P.mid i d :=
  (norm_of_infinite (P.infinite_of_not_real h X) d).trans (norm_of_infinite (P.infinite_of_not_real h _) d).symm

end Data

end Cert.Layer

end
-- ==== Proof.Args.lean ====
/- What the precondition says of the arguments: the queries' and the keys' weights and the keys' bias are arrays of real numbers, the
   mask is false, every other bias and every shift is 0, every gain is 1. -/
module

public import proofs.«01_k».proof.Pre_ordinary
public import proofs.«01_k».proof.Proof.Math
public import Idealize.ShloMosaic.Lib.Pointwise

@[expose] public section

set_option maxRecDepth 16384

noncomputable section

open Idealize.ShloMosaic

namespace Cert.Layer

open Cert.Pre_ordinary

/-- An array of single precision values. -/
abbrev A (s : Shape) := (⟨s, .f32⟩ : BufTy).Contents (Elt Ideal)

/-- The arguments hold the layer's data `P`: a false mask, zero biases and shifts, unit gains. -/
structure Given (P : Data)
    (x0 : A S512x128) (x1 : A S512x512x128) (x2 : (⟨S512x512, .i1⟩ : BufTy).Contents (Elt Ideal)) (x3 : A S128x384)
    (x4 : A S128) (x5 : A S128) (x6 : A S128) (x7 : A S128x128) (x8 : A S128) (x9 : A S128) (x10 : A S128) (x11 : A S128)
    (x12 : A S128) (x13 : A S128x128) (x14 : A S128) (x15 : A S128x128) (x16 : A S128) (x17 : A S128x128) (x18 : A S128)
    (x19 : A S128x128) (x20 : A S128) (x21 : A S2048x128) (x22 : A S2048) (x23 : A S128x2048) (x24 : A S128) (x25 : A S128)
    (x26 : A S128) (x27 : A S128) (x28 : A S128) : Prop where
  x0_eq : ∀ i k, x0 (ix2 i k) = P.node i k
  x1_eq : ∀ j i k, x1 (ix3 j i k) = P.edge j i k
  x3_eq : ∀ d k, x3 (ix2 d k) = P.Wpm d k
  x7_eq : ∀ d k, x7 (ix2 d k) = P.Wpe d k
  x13_eq : ∀ d k, x13 (ix2 d k) = (P.Wq d k : EReal)
  x15_eq : ∀ d k, x15 (ix2 d k) = (P.Wk d k : EReal)
  x16_eq : ∀ d, x16 (ix1 d) = (P.bk d : EReal)
  x17_eq : ∀ d k, x17 (ix2 d k) = P.Wv d k
  x19_eq : ∀ d k, x19 (ix2 d k) = P.Wo d k
  x21_eq : ∀ f k, x21 (ix2 f k) = P.W1 f k
  x23_eq : ∀ d f, x23 (ix2 d f) = P.W2 d f
  x4_eq : ∀ d, x4 (ix1 d) = 0
  x6_eq : ∀ d, x6 (ix1 d) = 0
  x8_eq : ∀ d, x8 (ix1 d) = 0
  x10_eq : ∀ d, x10 (ix1 d) = 0
  x12_eq : ∀ d, x12 (ix1 d) = 0
  x14_eq : ∀ d, x14 (ix1 d) = 0
  x18_eq : ∀ d, x18 (ix1 d) = 0
  x20_eq : ∀ d, x20 (ix1 d) = 0
  x24_eq : ∀ d, x24 (ix1 d) = 0
  x26_eq : ∀ d, x26 (ix1 d) = 0
  x28_eq : ∀ d, x28 (ix1 d) = 0
  x5_eq : ∀ d, x5 (ix1 d) = 1
  x9_eq : ∀ d, x9 (ix1 d) = 1
  x11_eq : ∀ d, x11 (ix1 d) = 1
  x25_eq : ∀ d, x25 (ix1 d) = 1
  x27_eq : ∀ d, x27 (ix1 d) = 1
  x2_eq : ∀ i j, x2 (ix2 i j) = 0#1
  x22_eq : ∀ f, x22 (ix1 f) = 0

/-- The pattern of positive infinity. -/
theorem ofBits_top : Ideal.ofBits .f32 2139095040#32 = ⊤ := by
  simp [Ideal.ofBits, Ideal.ieee]

/-- A decided bit that is set decides for. -/
theorem of_bit {p : Prop} [Decidable p] (h : BitVec.ofBool (decide p) = 1#1) : p := by
  by_contra hn
  rw [decide_eq_false hn] at h
  exact absurd h (by decide)

/-- A value whose absolute value compares below infinity is a real number. -/
theorem coe_of_bit {x : EReal}
    (h : BitVec.ofBool (decide (FloatOps.absf (F := Ideal) (φ := .f32) x < Ideal.ofBits .f32 2139095040#32)) = 1#1) :
    x = (x.toReal : EReal) := by
  have h' : max x (-x) < ⊤ := by
    rw [← ofBits_top]
    exact of_bit h
  refine (EReal.coe_toReal (fun e => ?_) (fun e => ?_)).symm <;> subst e <;> simp at h'

/-- The conjunction of two bits is set exactly when both are. -/
theorem and_one (a b : BitVec 1) : IntOp.andi a b = 1#1 ↔ a = 1#1 ∧ b = 1#1 := by
  revert a b; decide

/-- A bit whose complement is set is not set. -/
theorem zero_of_not {a : BitVec 1} (h : ~~~a = 1#1) : a = 0#1 := by
  revert a; decide

variable [Facts]

/-- Arguments that meet the precondition hold some layer's data. -/
theorem given_of_ordinary
    (x0 : A S512x128) (x1 : A S512x512x128) (x2 : (⟨S512x512, .i1⟩ : BufTy).Contents (Elt Ideal)) (x3 : A S128x384)
    (x4 : A S128) (x5 : A S128) (x6 : A S128) (x7 : A S128x128) (x8 : A S128) (x9 : A S128) (x10 : A S128) (x11 : A S128)
    (x12 : A S128) (x13 : A S128x128) (x14 : A S128) (x15 : A S128x128) (x16 : A S128) (x17 : A S128x128) (x18 : A S128)
    (x19 : A S128x128) (x20 : A S128) (x21 : A S2048x128) (x22 : A S2048) (x23 : A S128x2048) (x24 : A S128) (x25 : A S128)
    (x26 : A S128) (x27 : A S128) (x28 : A S128)
    (h0 : (fn (F := Ideal) x0 x1 x2 x3 x4 x5 x6 x7 x8 x9 x10 x11 x12 x13 x14 x15 x16 x17 x18 x19 x20 x21 x22 x23 x24 x25 x26 x27 x28).1 = fun _ => 1#1)
    (h1 : (fn (F := Ideal) x0 x1 x2 x3 x4 x5 x6 x7 x8 x9 x10 x11 x12 x13 x14 x15 x16 x17 x18 x19 x20 x21 x22 x23 x24 x25 x26 x27 x28).2.1 = fun _ => 1#1)
    (h2 : (fn (F := Ideal) x0 x1 x2 x3 x4 x5 x6 x7 x8 x9 x10 x11 x12 x13 x14 x15 x16 x17 x18 x19 x20 x21 x22 x23 x24 x25 x26 x27 x28).2.2.1 = fun _ => 1#1)
    (h3 : (fn (F := Ideal) x0 x1 x2 x3 x4 x5 x6 x7 x8 x9 x10 x11 x12 x13 x14 x15 x16 x17 x18 x19 x20 x21 x22 x23 x24 x25 x26 x27 x28).2.2.2 = fun _ => 1#1) :
    ∃ P : Data, Given P x0 x1 x2 x3 x4 x5 x6 x7 x8 x9 x10 x11 x12 x13 x14 x15 x16 x17 x18 x19 x20 x21 x22 x23 x24 x25 x26 x27 x28 := by
  have e0 := fun i j => congrFun h0 (ix2 i j)
  have e1 := fun d k => congrFun h1 (ix2 d k)
  have e2 := fun d => congrFun h2 (ix1 d)
  have e3 := fun f => congrFun h3 (ix1 f)
  pointwise [fn, fn_part1, fn_part2, fn_part3] at e0 e1 e2 e3
  simp only [and_one] at e1 e2
  exact ⟨⟨fun i k => x0 (ix2 i k), fun j i k => x1 (ix3 j i k), fun d k => x3 (ix2 d k), fun d k => x7 (ix2 d k),
    fun d k => (x13 (ix2 d k)).toReal, fun d k => (x15 (ix2 d k)).toReal, fun d => (x16 (ix1 d)).toReal,
    fun d k => x17 (ix2 d k), fun d k => x19 (ix2 d k), fun f k => x21 (ix2 f k), fun d f => x23 (ix2 d f)⟩,
    { x0_eq := fun i k => rfl
      x1_eq := fun j i k => rfl
      x3_eq := fun d k => rfl
      x7_eq := fun d k => rfl
      x17_eq := fun d k => rfl
      x19_eq := fun d k => rfl
      x21_eq := fun f k => rfl
      x23_eq := fun d f => rfl
      x16_eq := fun d => coe_of_bit (e2 d).1.1
      x13_eq := fun d k => coe_of_bit (e1 d k).1
      x15_eq := fun d k => coe_of_bit (e1 d k).2
      x4_eq := fun d => of_bit (e2 d).1.2.1.1.1.1.1.1.1.1.1.1
      x6_eq := fun d => of_bit (e2 d).1.2.1.1.1.1.1.1.1.1.1.2
      x8_eq := fun d => of_bit (e2 d).1.2.1.1.1.1.1.1.1.1.2
      x10_eq := fun d => of_bit (e2 d).1.2.1.1.1.1.1.1.1.2
      x12_eq := fun d => of_bit (e2 d).1.2.1.1.1.1.1.1.2
      x14_eq := fun d => of_bit (e2 d).1.2.1.1.1.1.1.2
      x18_eq := fun d => of_bit (e2 d).1.2.1.1.1.1.2
      x20_eq := fun d => of_bit (e2 d).1.2.1.1.1.2
      x24_eq := fun d => of_bit (e2 d).1.2.1.1.2
      x26_eq := fun d => of_bit (e2 d).1.2.1.2
      x28_eq := fun d => of_bit (e2 d).1.2.2
      x5_eq := fun d => of_bit (e2 d).2.1.1.1.1
      x9_eq := fun d => of_bit (e2 d).2.1.1.1.2
      x11_eq := fun d => of_bit (e2 d).2.1.1.2
      x25_eq := fun d => of_bit (e2 d).2.1.2
      x27_eq := fun d => of_bit (e2 d).2.2
      x2_eq := fun i j => zero_of_not (e0 i j)
      x22_eq := fun f => of_bit (e3 f) }⟩

end Cert.Layer

end
-- ==== Proof.Softmax.lean ====
/- Three facts on sums of real numbers that the reference needs: a sum over 384 features by its three runs, a softmax that first
   subtracts the largest score, and the divisor of a variance. -/
module

public import proofs.«01_k».proof.Proof.Math

@[expose] public section

noncomputable section

open Idealize.ShloMosaic

namespace Cert.Layer

/-- A sum over 384 features is the sum over its three runs of 128. -/
theorem sum_three {M : Type*} [AddCommMonoid M] (f : Fin 384 → M) :
    ∑ x, f x = ∑ k : Fin 128, f ⟨k.val, by omega⟩ + ∑ k : Fin 128, f ⟨128 + k.val, by omega⟩
      + ∑ k : Fin 128, f ⟨256 + k.val, by omega⟩ := by
  have h := Fin.sum_univ_add (a := 256) (b := 128) f
  have h' := Fin.sum_univ_add (a := 128) (b := 128) fun i : Fin 256 => f (Fin.castAdd 128 i)
  rw [h, h']
  rfl

/-- Nothing is subtracted from the divisor of the variance. -/
theorem divisor : Ideal.ofBits .f32 1124073472#32 - FloatOps.sitofp (F := Ideal) .f32 0#32 = Ideal.ofBits .f32 1124073472#32 := by
  have h : FloatOps.sitofp (F := Ideal) .f32 0#32 = ((0 : ℝ) : EReal) := by
    change ((_ : ℝ) : EReal) = _
    norm_num
  rw [h]
  simp

/-- The divisor of the variance is positive. -/
theorem divisor_pos : 0 < Ideal.ofBits .f32 1124073472#32 := by
  rw [ofBits_128]
  exact_mod_cast (by norm_num : (0 : ℝ) < 128)

/-- The pattern of negative infinity. -/
theorem ofBits_bot : Ideal.ofBits .f32 4286578688#32 = ⊥ := by
  simp [Ideal.ofBits, Ideal.ieee]

/-- The largest of 512 real numbers, as the programs fold it, is a real number. -/
theorem exists_max (s : Fin 512 → ℝ) :
    ∃ M : ℝ, max (Ideal.ofBits .f32 4286578688#32)
      (Finset.fold max (Ideal.ofBits .f32 4286578688#32) (fun x => (s x : EReal)) Finset.univ) = (M : EReal) := by
  rw [ofBits_bot, max_eq_right bot_le]
  set z := Finset.fold max (⊥ : EReal) (fun x => (s x : EReal)) Finset.univ with hz
  refine ⟨z.toReal, (EReal.coe_toReal ?_ ?_).symm⟩
  · exact ((Finset.fold_max_lt _).mpr ⟨bot_lt_top, fun x _ => EReal.coe_lt_top _⟩).ne
  · exact (lt_of_lt_of_le (EReal.bot_lt_coe (s 0))
      ((Finset.le_fold_max _).mpr (Or.inr ⟨0, Finset.mem_univ _, le_rfl⟩))).ne'

/-- The softmax of scores that share a constant, computed after subtracting the largest, is the softmax of the scores. -/
theorem softmax_coe (s : Fin 512 → ℝ) (β : ℝ) (e : Fin 512 → EReal)
    (he : ∀ j, e j = Ideal.exp (((s j + β : ℝ) : EReal) - max (Ideal.ofBits .f32 4286578688#32)
      (Finset.fold max (Ideal.ofBits .f32 4286578688#32) (fun x => ((s x + β : ℝ) : EReal)) Finset.univ))) (j : Fin 512) :
    Ideal.div (e j) (∑ x, e x) = ((Real.exp (s j) / ∑ x, Real.exp (s x) : ℝ) : EReal) := by
  obtain ⟨M, hM⟩ := exists_max fun x => s x + β
  have h : ∀ k, e k = ((Real.exp (s k) * Real.exp (β - M) : ℝ) : EReal) := fun k => by
    rw [he, hM, ← EReal.coe_sub, Ideal.exp_coe, ← Real.exp_add, add_sub_assoc]
  have hp : 0 < ∑ x, Real.exp (s x) := Finset.sum_pos (fun _ _ => Real.exp_pos _) ⟨0, Finset.mem_univ _⟩
  simp only [h]
  rw [sum_coe, ← Finset.sum_mul, div_coe (mul_pos hp (Real.exp_pos _)).ne', mul_div_mul_right _ _ (Real.exp_pos _).ne']

end Cert.Layer

end
-- ==== Proof.ReferenceEdge.lean ====
/- The reference's memories, edge updates and second result. -/
module

public import proofs.«01_k».proof.Proof.Args
public import proofs.«01_k».proof.Proof.Softmax
public import proofs.«01_k».proof.Proof.Gen.ReferenceIdeal.Read

@[expose] public section

set_option maxRecDepth 16384

noncomputable section

open Idealize.ShloMosaic Idealize.ShloMosaic.TcCoe

namespace Cert.ReferenceIdeal.Value

open Cert.ReferenceIdeal Cert.ReferenceIdeal.Gen Cert.ReferenceIdeal.Read Cert.Layer

variable {P : Data} {x0 : A S512x128} {x1 : A S512x512x128} {x2 : (⟨S512x512, .i1⟩ : BufTy).Contents (Elt Ideal)}
  {x3 : A S128x384} {x4 : A S128} {x5 : A S128} {x6 : A S128} {x7 : A S128x128} {x8 : A S128} {x9 : A S128} {x10 : A S128}
  {x11 : A S128} {x12 : A S128} {x13 : A S128x128} {x14 : A S128} {x15 : A S128x128} {x16 : A S128} {x17 : A S128x128}
  {x18 : A S128} {x19 : A S128x128} {x20 : A S128} {x21 : A S2048x128} {x22 : A S2048} {x23 : A S128x2048} {x24 : A S128}
  {x25 : A S128} {x26 : A S128} {x27 : A S128} {x28 : A S128}
  (G : Given P x0 x1 x2 x3 x4 x5 x6 x7 x8 x9 x10 x11 x12 x13 x14 x15 x16 x17 x18 x19 x20 x21 x22 x23 x24 x25 x26 x27 x28)

include G

/-- The memories before normalisation. -/
theorem pre_apply (j : Fin 512) (i : Fin 512) (d : Fin 128) :
    val_main_v9 (F := Ideal) x0 x1 x3 x4 (ix3 j i d) = P.pre j i d := by
  pointwise [val_main_v0, val_main_v1, val_main_v2, val_main_v3, val_main_v4, val_main_v5, val_main_v6, val_main_v7,
    val_main_v8, val_main_v9]
  rw [G.x4_eq, add_zero, sum_three]
  have h1 : ∀ k : Fin 128, ¬ 128 + k.val < 128 := fun k => by omega
  have h2 : ∀ k : Fin 128, ¬ 256 + k.val < 128 := fun k => by omega
  have h3 : ∀ k : Fin 128, 128 + k.val - 128 < 128 := fun k => by omega
  have h4 : ∀ k : Fin 128, ¬ 256 + k.val - 128 < 128 := fun k => by omega
  have e1 : ∀ k : Fin 128, 128 + k.val - 128 = k.val := fun k => by omega
  have e2 : ∀ k : Fin 128, 256 + k.val - 128 - 128 = k.val := fun k => by omega
  simp only [Fin.is_lt, dif_pos, dif_neg (h1 _), dif_neg (h2 _), dif_pos (h3 _), dif_neg (h4 _), e1, e2, Fin.eta,
    G.x0_eq, G.x1_eq, G.x3_eq]
  rfl

/-- The memories. -/
theorem mem_apply (j : Fin 512) (i : Fin 512) (d : Fin 128) :
    val_main_v28 (F := Ideal) x0 x1 x3 x4 x5 x6 (ix3 j i d) = ((P.mem j i d : ℝ) : EReal) := by
  pointwise [val_main_cst, val_main_v10, val_main_v11, val_main_cst_0, val_main_v12, val_main_v13, val_main_c,
    val_main_call0_cst, val_main_call0_v0, val_main_call0_v1, val_main_call0_cst_0, val_main_call0_v2, val_main_call0_v3,
    val_main_call0_v4, val_main_call0_v5, val_main_call0_v6, val_main_call0_v7, val_main_call0_cst_1, val_main_call0_v8,
    val_main_call0_cst_2, val_main_call0_v9, val_main_call0_v10, val_main_call0_v11, val_main_call0_v12,
    val_main_call0_cst_3, val_main_call0_v13, val_main_call0_cst_4, val_main_call0_call0_v0, val_main_call0_call0_v1,
    val_main_v14, val_main_v15, val_main_v16, val_main_cst_1, val_main_v17, val_main_v18, val_main_v19, val_main_v20,
    val_main_v21, val_main_v22, val_main_v23, val_main_v24, val_main_v25, val_main_v26, val_main_v27, val_main_call1_cst,
    val_main_call1_v0, val_main_v28]
  simp only [pre_apply G, G.x5_eq, G.x6_eq, mul_one, add_zero, divisor, if_pos divisor_pos]
  exact (congrArg (max · 0) (rnorm_eq (P.pre j i) d)).trans (max_coe_zero _)

/-- The edge updates before normalisation. -/
theorem updPre_apply (j : Fin 512) (i : Fin 512) (d : Fin 128) :
    val_main_v33 (F := Ideal) x0 x1 x3 x4 x5 x6 x7 x8 (ix3 j i d) = P.updPre j i d := by
  pointwise [val_main_v29, val_main_v30, val_main_v31, val_main_v32, val_main_v33]
  simp only [mem_apply G, G.x7_eq, G.x8_eq, add_zero]
  rfl

/-- The edge updates. -/
theorem upd_apply (j : Fin 512) (i : Fin 512) (d : Fin 128) :
    val_main_v52 (F := Ideal) x0 x1 x3 x4 x5 x6 x7 x8 x9 x10 (ix3 j i d) = ((P.upd j i d : ℝ) : EReal) := by
  pointwise [val_main_cst_2, val_main_v34, val_main_v35, val_main_cst_3, val_main_v36, val_main_v37, val_main_c_4,
    val_main_call2_cst, val_main_call2_v0, val_main_call2_v1, val_main_call2_cst_0, val_main_call2_v2, val_main_call2_v3,
    val_main_call2_v4, val_main_call2_v5, val_main_call2_v6, val_main_call2_v7, val_main_call2_cst_1, val_main_call2_v8,
    val_main_call2_cst_2, val_main_call2_v9, val_main_call2_v10, val_main_call2_v11, val_main_call2_v12,
    val_main_call2_cst_3, val_main_call2_v13, val_main_call2_cst_4, val_main_call2_call0_v0, val_main_call2_call0_v1,
    val_main_v38, val_main_v39, val_main_v40, val_main_cst_5, val_main_v41, val_main_v42, val_main_v43, val_main_v44,
    val_main_v45, val_main_v46, val_main_v47, val_main_v48, val_main_v49, val_main_v50, val_main_v51, val_main_call3_cst,
    val_main_call3_v0, val_main_v52]
  simp only [updPre_apply G, G.x9_eq, G.x10_eq, mul_one, add_zero, divisor, if_pos divisor_pos]
  exact (congrArg (max · 0) (rnorm_eq (P.updPre j i) d)).trans (max_coe_zero _)

/-- The second result: the new edges. -/
theorem enew_apply (j : Fin 512) (i : Fin 512) (d : Fin 128) :
    val_main_v71 (F := Ideal) x0 x1 x3 x4 x5 x6 x7 x8 x9 x10 x11 x12 (ix3 j i d) = ((P.enew j i d : ℝ) : EReal) := by
  pointwise [val_main_v53, val_main_cst_6, val_main_v54, val_main_v55, val_main_cst_7, val_main_v56, val_main_v57,
    val_main_c_8, val_main_call4_cst, val_main_call4_v0, val_main_call4_v1, val_main_call4_cst_0, val_main_call4_v2,
    val_main_call4_v3, val_main_call4_v4, val_main_call4_v5, val_main_call4_v6, val_main_call4_v7, val_main_call4_cst_1,
    val_main_call4_v8, val_main_call4_cst_2, val_main_call4_v9, val_main_call4_v10, val_main_call4_v11, val_main_call4_v12,
    val_main_call4_cst_3, val_main_call4_v13, val_main_call4_cst_4, val_main_call4_call0_v0, val_main_call4_call0_v1,
    val_main_v58, val_main_v59, val_main_v60, val_main_cst_9, val_main_v61, val_main_v62, val_main_v63, val_main_v64,
    val_main_v65, val_main_v66, val_main_v67, val_main_v68, val_main_v69, val_main_v70, val_main_v71]
  simp only [upd_apply G, G.x1_eq, G.x11_eq, G.x12_eq, mul_one, add_zero, divisor, if_pos divisor_pos]
  exact rnorm_eq (fun e => P.edge j i e + (P.upd j i e : EReal)) d

end Cert.ReferenceIdeal.Value

end
-- ==== Proof.ReferenceHeads.lean ====
/- The reference's queries, keys and values by heads. -/
module

public import proofs.«01_k».proof.Proof.ReferenceEdge

@[expose] public section

set_option maxRecDepth 16384

noncomputable section

open Idealize.ShloMosaic Idealize.ShloMosaic.TcCoe

namespace Cert.ReferenceIdeal.Value

open Cert.ReferenceIdeal Cert.ReferenceIdeal.Gen Cert.ReferenceIdeal.Read Cert.Layer

variable {P : Data} {x0 : A S512x128} {x1 : A S512x512x128} {x2 : (⟨S512x512, .i1⟩ : BufTy).Contents (Elt Ideal)}
  {x3 : A S128x384} {x4 : A S128} {x5 : A S128} {x6 : A S128} {x7 : A S128x128} {x8 : A S128} {x9 : A S128} {x10 : A S128}
  {x11 : A S128} {x12 : A S128} {x13 : A S128x128} {x14 : A S128} {x15 : A S128x128} {x16 : A S128} {x17 : A S128x128}
  {x18 : A S128} {x19 : A S128x128} {x20 : A S128} {x21 : A S2048x128} {x22 : A S2048} {x23 : A S128x2048} {x24 : A S128}
  {x25 : A S128} {x26 : A S128} {x27 : A S128} {x28 : A S128}
  (G : Given P x0 x1 x2 x3 x4 x5 x6 x7 x8 x9 x10 x11 x12 x13 x14 x15 x16 x17 x18 x19 x20 x21 x22 x23 x24 x25 x26 x27 x28)

include G

/-- The queries by heads, of a node of real features. -/
theorem query_apply {i : Fin 512} (hi : P.RealNode i) (h : Fin 8) (t : Fin 16) :
    val_main_v77 (F := Ideal) x0 x13 x14 (ix3 i h t) = ((P.query i (feat h t) : ℝ) : EReal) := by
  pointwise [val_main_v72, val_main_v73, val_main_v74, val_main_v75, val_main_v76, val_main_v77]
  have h0 : ∀ k, x0 (ix2 i k) = ((P.node i k).toReal : EReal) := fun k => (G.x0_eq i k).trans (hi k)
  simp only [h0, G.x13_eq, G.x14_eq, add_zero, ← EReal.coe_mul]
  exact sum_coe _ _

/-- The keys by heads. -/
theorem key_apply (j : Fin 512) (i : Fin 512) (h : Fin 8) (t : Fin 16) :
    val_main_v83 (F := Ideal) x0 x1 x3 x4 x5 x6 x15 x16 (ix4 j i h t) = ((P.key j i (feat h t) + P.bk (feat h t) : ℝ) : EReal) := by
  pointwise [val_main_v78, val_main_v79, val_main_v80, val_main_v81, val_main_v82, val_main_v83]
  simp only [mem_apply G, G.x15_eq, G.x16_eq, ← EReal.coe_mul]
  rw [sum_coe, ← EReal.coe_add]
  rfl

/-- The values by heads. -/
theorem value_apply (j : Fin 512) (i : Fin 512) (h : Fin 8) (t : Fin 16) :
    val_main_v89 (F := Ideal) x0 x1 x3 x4 x5 x6 x17 x18 (ix4 j i h t) = P.value j i (feat h t) := by
  pointwise [val_main_v84, val_main_v85, val_main_v86, val_main_v87, val_main_v88, val_main_v89]
  simp only [mem_apply G, G.x17_eq, G.x18_eq, add_zero]
  rfl

end Cert.ReferenceIdeal.Value

end
-- ==== Proof.ReferenceAttention.lean ====
/- The reference's attention, for nodes of real features. -/
module

public import proofs.«01_k».proof.Proof.ReferenceHeads

@[expose] public section

set_option maxRecDepth 16384

noncomputable section

open Idealize.ShloMosaic Idealize.ShloMosaic.TcCoe

namespace Cert.ReferenceIdeal.Value

open Cert.ReferenceIdeal Cert.ReferenceIdeal.Gen Cert.ReferenceIdeal.Read Cert.Layer

variable {P : Data} {x0 : A S512x128} {x1 : A S512x512x128} {x2 : (⟨S512x512, .i1⟩ : BufTy).Contents (Elt Ideal)}
  {x3 : A S128x384} {x4 : A S128} {x5 : A S128} {x6 : A S128} {x7 : A S128x128} {x8 : A S128} {x9 : A S128} {x10 : A S128}
  {x11 : A S128} {x12 : A S128} {x13 : A S128x128} {x14 : A S128} {x15 : A S128x128} {x16 : A S128} {x17 : A S128x128}
  {x18 : A S128} {x19 : A S128x128} {x20 : A S128} {x21 : A S2048x128} {x22 : A S2048} {x23 : A S128x2048} {x24 : A S128}
  {x25 : A S128} {x26 : A S128} {x27 : A S128} {x28 : A S128}
  (G : Given P x0 x1 x2 x3 x4 x5 x6 x7 x8 x9 x10 x11 x12 x13 x14 x15 x16 x17 x18 x19 x20 x21 x22 x23 x24 x25 x26 x27 x28)

include G

omit G in
/-- What the keys' bias adds to every score of a node under a head. -/
def bias (P : Data) (i : Fin 512) (h : Fin 8) : ℝ := (∑ t, P.query i (feat h t) * P.bk (feat h t)) / 4

/-- The scores, of a node of real features. -/
theorem score_apply {i : Fin 512} (hi : P.RealNode i) (h : Fin 8) (j : Fin 512) :
    val_main_v94 (F := Ideal) x0 x1 x2 x3 x4 x5 x6 x13 x14 x15 x16 (ix3 i h j) = ((P.score i h j + bias P i h : ℝ) : EReal) := by
  pointwise [val_main_v90, val_main_cst_10, val_main_v91, val_main_v92, val_main_v93, val_main_cst_11, val_main_call5_v0,
    val_main_call5_v1, val_main_call5_v2, val_main_v94]
  simp only [G.x2_eq, query_apply G hi, key_apply G, ← EReal.coe_mul]
  rw [sum_coe, ofBits_4, div_coe (by norm_num)]
  refine congrArg Real.toEReal ?_
  simp only [Data.score, bias, mul_add, Finset.sum_add_distrib, add_div]

/-- The attention weights, of a node of real features. -/
theorem weight_apply {i : Fin 512} (hi : P.RealNode i) (h : Fin 8) (j : Fin 512) :
    val_main_v105 (F := Ideal) x0 x1 x2 x3 x4 x5 x6 x13 x14 x15 x16 (ix3 i h j) = ((P.weight i h j : ℝ) : EReal) := by
  pointwise [val_main_cst_14, val_main_v102, val_main_v103, val_main_v104, val_main_v105]
  refine softmax_coe (P.score i h) (bias P i h) _ (fun k => ?_) j
  pointwise [val_main_cst_12, val_main_v95, val_main_cst_13, val_main_v96, val_main_v97, val_main_v98, val_main_v99,
    val_main_v100, val_main_v101]
  simp only [score_apply G hi]

/-- A node of real features with the attention added, before normalisation. -/
theorem attended_apply {i : Fin 512} (hi : P.RealNode i) (d : Fin 128) :
    val_main_v113 (F := Ideal) x0 x1 x2 x3 x4 x5 x6 x13 x14 x15 x16 x17 x18 x19 x20 (ix2 i d) = P.node i d + ∑ e, P.attn i e * P.Wo d e := by
  pointwise [val_main_v106, val_main_v107, val_main_v108, val_main_v109, val_main_v110, val_main_v111, val_main_v112,
    val_main_v113]
  have h : ∀ (e : Fin 128), (∑ j, val_main_v105 (F := Ideal) x0 x1 x2 x3 x4 x5 x6 x13 x14 x15 x16 (ix3 i ⟨e.val / 16, by omega⟩ j)
      * val_main_v89 (F := Ideal) x0 x1 x3 x4 x5 x6 x17 x18 (ix4 j i ⟨e.val / 16, by omega⟩ ⟨e.val % 16, by omega⟩)) = P.attn i e := by
    intro e
    have he : feat ⟨e.val / 16, by omega⟩ ⟨e.val % 16, by omega⟩ = e := Fin.ext (Nat.div_add_mod' _ _)
    simp only [weight_apply G hi, value_apply G, he]
    rfl
  simp only [h, G.x0_eq, G.x19_eq, G.x20_eq, add_zero]

/-- A node with the attention added, before normalisation, is the node's features with something added. -/
theorem attended_sum (i : Fin 512) : ∃ X : Fin 128 → EReal, ∀ d,
    val_main_v113 (F := Ideal) x0 x1 x2 x3 x4 x5 x6 x13 x14 x15 x16 x17 x18 x19 x20 (ix2 i d) = P.node i d + X d :=
  ⟨fun d => val_main_v112 (F := Ideal) x0 x1 x2 x3 x4 x5 x6 x13 x14 x15 x16 x17 x18 x19 x20 (ix2 i d), fun d => by
    rw [← G.x0_eq]
    pointwise [val_main_v113]⟩

end Cert.ReferenceIdeal.Value

end
-- ==== Proof.ReferenceNode.lean ====
/- The reference's first result. -/
module

public import proofs.«01_k».proof.Proof.ReferenceAttention

@[expose] public section

set_option maxRecDepth 16384

noncomputable section

open Idealize.ShloMosaic Idealize.ShloMosaic.TcCoe

namespace Cert.ReferenceIdeal.Value

open Cert.ReferenceIdeal Cert.ReferenceIdeal.Gen Cert.ReferenceIdeal.Read Cert.Layer

variable {P : Data} {x0 : A S512x128} {x1 : A S512x512x128} {x2 : (⟨S512x512, .i1⟩ : BufTy).Contents (Elt Ideal)}
  {x3 : A S128x384} {x4 : A S128} {x5 : A S128} {x6 : A S128} {x7 : A S128x128} {x8 : A S128} {x9 : A S128} {x10 : A S128}
  {x11 : A S128} {x12 : A S128} {x13 : A S128x128} {x14 : A S128} {x15 : A S128x128} {x16 : A S128} {x17 : A S128x128}
  {x18 : A S128} {x19 : A S128x128} {x20 : A S128} {x21 : A S2048x128} {x22 : A S2048} {x23 : A S128x2048} {x24 : A S128}
  {x25 : A S128} {x26 : A S128} {x27 : A S128} {x28 : A S128}
  (G : Given P x0 x1 x2 x3 x4 x5 x6 x7 x8 x9 x10 x11 x12 x13 x14 x15 x16 x17 x18 x19 x20 x21 x22 x23 x24 x25 x26 x27 x28)

include G

/-- The nodes after attention. -/
theorem mid_apply (i : Fin 512) (d : Fin 128) :
    val_main_v131 (F := Ideal) x0 x1 x2 x3 x4 x5 x6 x13 x14 x15 x16 x17 x18 x19 x20 x25 x26 (ix2 i d) = ((P.mid i d : ℝ) : EReal) := by
  pointwise [val_main_cst_15, val_main_v114, val_main_v115, val_main_cst_16, val_main_v116, val_main_v117, val_main_c_17,
    val_main_call6_cst, val_main_call6_v0, val_main_call6_v1, val_main_call6_cst_0, val_main_call6_v2, val_main_call6_v3,
    val_main_call6_v4, val_main_call6_v5, val_main_call6_v6, val_main_call6_v7, val_main_call6_cst_1, val_main_call6_v8,
    val_main_call6_cst_2, val_main_call6_v9, val_main_call6_v10, val_main_call6_v11, val_main_call6_v12,
    val_main_call6_cst_3, val_main_call6_v13, val_main_call6_cst_4, val_main_call6_call0_v0, val_main_call6_call0_v1,
    val_main_v118, val_main_v119, val_main_v120, val_main_cst_18, val_main_v121, val_main_v122, val_main_v123, val_main_v124,
    val_main_v125, val_main_v126, val_main_v127, val_main_v128, val_main_v129, val_main_v130, val_main_v131]
  by_cases hi : P.RealNode i
  · simp only [attended_apply G hi, G.x25_eq, G.x26_eq, mul_one, add_zero, divisor, if_pos divisor_pos]
    exact rnorm_eq (fun c => P.node i c + ∑ e, P.attn i e * P.Wo c e) d
  · obtain ⟨X, hX⟩ := attended_sum G i
    simp only [hX, G.x25_eq, G.x26_eq, mul_one, add_zero, divisor, if_pos divisor_pos]
    exact (rnorm_eq (fun c => P.node i c + X c) d).trans (congrArg Real.toEReal (P.mid_of_infinite hi X d))

/-- The hidden units. -/
theorem hidden_apply (i : Fin 512) (f : Fin 2048) :
    val_main_v137 (F := Ideal) x0 x1 x2 x3 x4 x5 x6 x13 x14 x15 x16 x17 x18 x19 x20 x21 x22 x25 x26 (ix2 i f) = P.hidden i f := by
  pointwise [val_main_v132, val_main_v133, val_main_v134, val_main_v135, val_main_v136, val_main_call7_cst,
    val_main_call7_v0, val_main_v137]
  simp only [mid_apply G, G.x21_eq, G.x22_eq, add_zero]
  rfl

/-- The nodes with the feed-forward block added, before normalisation. -/
theorem fed_apply (i : Fin 512) (d : Fin 128) :
    val_main_v143 (F := Ideal) x0 x1 x2 x3 x4 x5 x6 x13 x14 x15 x16 x17 x18 x19 x20 x21 x22 x23 x24 x25 x26 (ix2 i d)
      = (P.mid i d : EReal) + ∑ f, P.hidden i f * P.W2 d f := by
  pointwise [val_main_v138, val_main_v139, val_main_v140, val_main_v141, val_main_v142, val_main_v143]
  simp only [mid_apply G, hidden_apply G, G.x23_eq, G.x24_eq, add_zero]

/-- The first result: the new nodes. -/
theorem out_apply (i : Fin 512) (d : Fin 128) :
    val_main_v161 (F := Ideal) x0 x1 x2 x3 x4 x5 x6 x13 x14 x15 x16 x17 x18 x19 x20 x21 x22 x23 x24 x25 x26 x27 x28 (ix2 i d) = ((P.out i d : ℝ) : EReal) := by
  pointwise [val_main_cst_19, val_main_v144, val_main_v145, val_main_cst_20, val_main_v146, val_main_v147, val_main_c_21,
    val_main_call8_cst, val_main_call8_v0, val_main_call8_v1, val_main_call8_cst_0, val_main_call8_v2, val_main_call8_v3,
    val_main_call8_v4, val_main_call8_v5, val_main_call8_v6, val_main_call8_v7, val_main_call8_cst_1, val_main_call8_v8,
    val_main_call8_cst_2, val_main_call8_v9, val_main_call8_v10, val_main_call8_v11, val_main_call8_v12,
    val_main_call8_cst_3, val_main_call8_v13, val_main_call8_cst_4, val_main_call8_call0_v0, val_main_call8_call0_v1,
    val_main_v148, val_main_v149, val_main_v150, val_main_cst_22, val_main_v151, val_main_v152, val_main_v153, val_main_v154,
    val_main_v155, val_main_v156, val_main_v157, val_main_v158, val_main_v159, val_main_v160, val_main_v161]
  simp only [fed_apply G, G.x27_eq, G.x28_eq, mul_one, add_zero, divisor, if_pos divisor_pos]
  exact rnorm_eq (fun c => (P.mid i c : EReal) + ∑ f, P.hidden i f * P.W2 c f) d

end Cert.ReferenceIdeal.Value

end
-- ==== Proof.KernelPrologue.lean ====
/- What the kernel's first call leaves in its three result arrays, over the arrays it reads. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Value

open Cert.KernelIdeal Cert.KernelIdeal.Gen

variable (V : (c : Dev nD) → (b : Ref sig .tc) → Buf (Elt Ideal) ((c : Thread nD τ).loc b)) (c : Dev nD)

/-- Every window's block is its whole array. -/
theorem idx0 : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0, 0] :=
  (by decide +kernel : ∀ t : Fin grid0.N, _)

/-- The first result: the nodes' source contributions. -/
theorem final0_5 : (dat0 (F := Ideal) V c).arrAt 5 cfg0.N = k0_pay3 (V c main_arg0) (V c main_v3) := by
  refine (dat0 V c).arrAt_eq_of_after_last 5 t0_0 (by decide +kernel) _ fun j => ?_
  blk_simp
  rw [after0_5]
  frame_out
  blk_point [iblk0, idx0 t0_0]

/-- The second result: the nodes' target contributions. -/
theorem final0_6 : (dat0 (F := Ideal) V c).arrAt 6 cfg0.N = k0_pay4 (V c main_arg0) (V c main_v5) := by
  refine (dat0 V c).arrAt_eq_of_after_last 6 t0_0 (by decide +kernel) _ fun j => ?_
  blk_simp
  rw [after0_6]
  frame_out
  blk_point [iblk0, idx0 t0_0]

/-- One entry of the third result, the query of a node under a head carried back through the key weights and scaled. -/
def carried (node : Vec Ideal S512x128 .f32) (wq wk : Vec Ideal S128x128 .f32) (h : Fin 8) (i : Fin 512) (d : Fin 128) : EReal :=
  (∑ t : Fin 16, (∑ k : Fin 128, node (ix2 i k) * wq (ix2 k ⟨h.val * 16 + t.val, by omega⟩))
    * wk (ix2 ⟨h.val * 16 + t.val, by omega⟩ d)) * Named.named (F := Ideal) (φ := .f32) κ "scale" 0x3EB8AA3B#32

/-- What the third result's buffer holds after the body. -/
theorem out0_7_apply (x0 : Vec Ideal S512x128 .f32) (x1 x2 x3 x4 : Vec Ideal S128x128 .f32) (j : S8x512x128.Idx) :
    out0_7 x0 x1 x2 x3 x4 j = carried x0 x3 x4 (j 0) (j 1) (j 2) := by
  frame_out
  canon_tiles x h
  all_goals
    pointwise [k0_pay1, k0_pay2, k0_pay5, k0_pay6, k0_pay7, k0_pay8, k0_pay9, k0_pay10, k0_pay11, k0_pay12, k0_pay13, carried]
    blk_point []

/-- The third result. -/
theorem final0_7 : (dat0 (F := Ideal) V c).arrAt 7 cfg0.N
    = fun j => carried (V c main_arg0) (V c main_v6) (V c main_arg15) (j 0) (j 1) (j 2) := by
  refine (dat0 V c).arrAt_eq_of_after_last 7 t0_0 (by decide +kernel) _ fun j => ?_
  blk_simp
  rw [after0_7, out0_7_apply]
  have e0 : iblk0 V c 0 t0_0 = V c main_arg0 := by blk_ext! [iblk0, idx0 t0_0]
  have e3 : iblk0 V c 3 t0_0 = V c main_v6 := by blk_ext! [iblk0, idx0 t0_0]
  have e4 : iblk0 V c 4 t0_0 = V c main_arg15 := by blk_ext! [iblk0, idx0 t0_0]
  rw [e0, e3, e4]

end Cert.KernelIdeal.Value

end
-- ==== Proof.KernelMath.lean ====
/- The kernel's own route to the attention, where the nodes' features are real numbers: it carries the queries back through the key weights, mixes the
   memories instead of the values, and takes powers of two instead of exponentials. -/
module

public import proofs.«01_k».proof.Proof.Math

@[expose] public section

noncomputable section

open Idealize.ShloMosaic

namespace Cert.Layer

/-- What the kernel multiplies the carried queries by. -/
def scale : ℝ := (Real.log 2)⁻¹ * 4⁻¹

namespace Data

variable (P : Data)

/-- The query of node `i` under head `h` carried back through the key weights, scaled. -/
def carried (i : Fin 512) (h : Fin 8) (c : Fin 128) : ℝ := (∑ t, P.query i (feat h t) * P.Wk (feat h t) c) * scale

/-- The memories of node `i` mixed by the attention weights of head `h`. -/
def mixed (i : Fin 512) (h : Fin 8) (c : Fin 128) : ℝ := (∑ j, P.mem j i c * Real.exp (P.score i h j)) / P.total i h

/-- A memory against a carried query is the score in units of the logarithm of two. -/
theorem sum_mem_carried (i : Fin 512) (h : Fin 8) (j : Fin 512) :
    ∑ c, P.mem j i c * P.carried i h c = P.score i h j * (Real.log 2)⁻¹ := by
  have e : ∀ c, P.mem j i c * P.carried i h c
      = ∑ t, P.query i (feat h t) * (P.mem j i c * P.Wk (feat h t) c) * scale := fun c => by
    unfold carried
    rw [Finset.sum_mul, Finset.mul_sum]
    exact Finset.sum_congr rfl fun t _ => by ring
  simp only [e]
  rw [Finset.sum_comm]
  simp only [← Finset.sum_mul, ← Finset.mul_sum]
  unfold score key scale
  ring

/-- The mixed memories are weighted sums of memories. -/
theorem mixed_eq (i : Fin 512) (h : Fin 8) (c : Fin 128) : P.mixed i h c = ∑ j, P.weight i h j * P.mem j i c := by
  unfold mixed weight
  rw [Finset.sum_div]
  exact Finset.sum_congr rfl fun j _ => by ring

/-- Mixing the memories and then taking values is mixing the values, whatever the values' weights are: neither the memories nor the
    attention weights are negative. -/
theorem sum_mixed (i : Fin 512) (e : Fin 128) : ∑ c, (P.mixed i (head e) c : EReal) * P.Wv e c = P.attn i e := by
  unfold attn value
  simp only [mixed_eq, mul_sum_of_nonneg _ (P.weight_nonneg _ _ _),
    sum_mul_of_nonneg _ _ fun j => mul_nonneg (P.weight_nonneg i (head e) j) (P.mem_nonneg j i _)]
  rw [Finset.sum_comm]
  exact Finset.sum_congr rfl fun j _ => Finset.sum_congr rfl fun c _ => by rw [EReal.coe_mul, mul_assoc]

end Data

/-- A power of two of a real number in units of the logarithm of two is its exponential. -/
theorem exp2_coe (s : ℝ) : FloatOps.exp2 (F := Ideal) (φ := .f32) ((s * (Real.log 2)⁻¹ : ℝ) : EReal) = ((Real.exp s : ℝ) : EReal) := by
  change Ideal.exp2 _ = _
  rw [Ideal.exp2_coe]
  refine congrArg Real.toEReal ?_
  change (2 : ℝ) ^ (s * (Real.log 2)⁻¹) = _
  rw [Real.rpow_def_of_pos (by norm_num)]
  refine congrArg Real.exp ?_
  have h : Real.log 2 ≠ 0 := (Real.log_pos (by norm_num)).ne'
  field_simp

/-- Two to the power of negative infinity is zero. -/
theorem exp2_bot : FloatOps.exp2 (F := Ideal) (φ := .f32) (⊥ : EReal) = 0 := Ideal.exp2_bot

/-- A sum over 4096 rows of which only those of one residue modulo eight contribute. -/
theorem sum_rows (b : Fin 8) (g : Fin 512 → EReal) :
    (∑ r : Fin 4096, if r.val % 8 = b.val then g ⟨r.val / 8, by omega⟩ else 0) = ∑ j, g j := by
  have h := (Equiv.sum_comp (finProdFinEquiv : Fin 512 × Fin 8 ≃ Fin (512 * 8))
    (fun r : Fin 4096 => if r.val % 8 = b.val then g ⟨r.val / 8, by omega⟩ else 0)).symm
  refine h.trans ?_
  rw [Fintype.sum_prod_type]
  refine Finset.sum_congr rfl fun j _ => ?_
  have e : ∀ x : Fin 8, (finProdFinEquiv (j, x) : Fin (512 * 8)).val = x.val + 8 * j.val := fun x => rfl
  rw [Finset.sum_eq_single b]
  · rw [if_pos (by rw [e]; omega)]
    exact congrArg g (Fin.ext (by change (finProdFinEquiv (j, b) : Fin (512 * 8)).val / 8 = _; rw [e]; omega))
  · intro x _ hx
    exact if_neg (by rw [e]; intro hh; exact hx (Fin.ext (by omega)))
  · exact fun hn => absurd (Finset.mem_univ b) hn

end Cert.Layer

end
-- ==== Proof.KernelBlock.lean ====
/- What one grid point of the kernel's main call computes from its blocks: the memories of eight nodes, their new edges, and the mixed
   memories of those of the eight whose features are real numbers. -/
module

public import proofs.«01_k».proof.Proof.KernelMath
public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Value

open Cert.KernelIdeal Cert.KernelIdeal.Gen Cert.Layer

/-- The blocks a grid point reads for the eight nodes `I`: rows `j * 8 + b` pair node `I b` with node `j`, columns `b * 8 + h` are
    the heads of node `I b`, of which nothing is said unless the node's features are real numbers. -/
structure Blocks (P : Data) (I : Fin 8 → Fin 512) (x0 : Vec Ideal S512x8x128 .f32) (x1 : Vec Ideal S8x128 .f32)
    (x2 : Vec Ideal S512x128 .f32) (x3 : Vec Ideal S64x128 .f32) (x4 x5 : Vec Ideal S128x128 .f32)
    (x6 : Vec Ideal S4096x64 .f32) : Prop where
  edge_eq : ∀ j b d, x0 (ix3 j b d) = P.edge j (I b) d
  src_eq : ∀ b d, x1 (ix2 b d) = P.preSrc (I b) d
  tar_eq : ∀ j d, x2 (ix2 j d) = P.preTar j d
  carried_eq : ∀ (s : Fin 64), P.RealNode (I ⟨s.val / 8, by omega⟩) → ∀ d,
    x3 (ix2 s d) = (P.carried (I ⟨s.val / 8, by omega⟩) ⟨s.val % 8, by omega⟩ d : EReal)
  wpm_eq : ∀ k d, x4 (ix2 k d) = P.Wpm d ⟨k.val, by omega⟩
  wpe_eq : ∀ k d, x5 (ix2 k d) = P.Wpe d k
  mask_eq : ∀ (r : Fin 4096) (s : Fin 64), x6 (ix2 r s) = if r.val % 8 = s.val / 8 then 0 else ⊥

variable {P : Data} {I : Fin 8 → Fin 512} {x0 : Vec Ideal S512x8x128 .f32} {x1 : Vec Ideal S8x128 .f32}
  {x2 : Vec Ideal S512x128 .f32} {x3 : Vec Ideal S64x128 .f32} {x4 x5 : Vec Ideal S128x128 .f32} {x6 : Vec Ideal S4096x64 .f32}
  (B : Blocks P I x0 x1 x2 x3 x4 x5 x6)

include B

/-- The memories, a row per pair. -/
theorem mem_row (r : Fin 4096) (d : Fin 128) :
    k1_pay3 x4 x2 x1 x0 (ix2 r d) = ((P.mem ⟨r.val / 8, by omega⟩ (I ⟨r.val % 8, by omega⟩) d : ℝ) : EReal) := by
  pointwise [k1_pay3, k1_pay2]
  have h : ∀ d : Fin 128, ∑ x, x0 (ix3 ⟨r.val / 8, by omega⟩ ⟨r.val % 8, by omega⟩ x) * x4 (ix2 x d)
      + x2 (ix2 ⟨r.val / 8, by omega⟩ d) + x1 (ix2 ⟨r.val % 8, by omega⟩ d)
      = P.pre ⟨r.val / 8, by omega⟩ (I ⟨r.val % 8, by omega⟩) d := fun d => by
    simp only [B.edge_eq, B.src_eq, B.tar_eq, B.wpm_eq]
    rw [add_right_comm]
    rfl
  simp only [h]
  exact (congrArg (max · 0) (enorm_eq (P.pre ⟨r.val / 8, by omega⟩ (I ⟨r.val % 8, by omega⟩)) d)).trans (max_coe_zero _)

/-- The edge updates before normalisation, a row per pair. -/
theorem updPre_row (r : Fin 4096) (d : Fin 128) :
    k1_pay4 x4 x5 x2 x1 x0 (ix2 r d) = P.updPre ⟨r.val / 8, by omega⟩ (I ⟨r.val % 8, by omega⟩) d := by
  pointwise [k1_pay4]
  simp only [mem_row B, B.wpe_eq]
  rfl

/-- The sum of a row of edge updates before normalisation. -/
theorem updSum_row (r : Fin 4096) :
    k1_pay5 x4 x5 x2 x1 x0 (ix1 r) = ∑ k, P.updPre ⟨r.val / 8, by omega⟩ (I ⟨r.val % 8, by omega⟩) k := by
  pointwise [k1_pay5]
  simp only [updPre_row B]

/-- The new edges of the eight nodes. -/
theorem out1_7_apply (j : Fin 512) (b : Fin 8) (d : Fin 128) :
    out1_7 x0 x1 x2 x3 x4 x5 x6 (ix3 j b d) = ((P.enew j (I b) d : ℝ) : EReal) := by
  frame_out
  pointwise [k1_pay6, k1_pay2]
  have ej : (⟨(j.val * 8 + b.val) / 8, by omega⟩ : Fin 512) = j := Fin.ext (by change (j.val * 8 + b.val) / 8 = _; omega)
  have eb : (⟨(j.val * 8 + b.val) % 8, by omega⟩ : Fin 8) = b := Fin.ext (by change (j.val * 8 + b.val) % 8 = _; omega)
  simp only [updPre_row B, updSum_row B, B.edge_eq, ej, eb]
  have hU : ∀ x, max (Cert.Layer.enorm (fun k => P.updPre j (I b) k) x) 0 = ((P.upd j (I b) x : ℝ) : EReal) := fun x =>
    (congrArg (max · 0) (enorm_eq (P.updPre j (I b)) x)).trans (max_coe_zero _)
  simp only [Cert.Layer.enorm, emean, evar] at hU
  simp only [hU]
  exact enorm_eq (fun e => P.edge j (I b) e + (P.upd j (I b) e : EReal)) d

/-- The mixed memories of those of the eight nodes whose features are real numbers. -/
theorem out1_8_apply (s : Fin 64) (hs : P.RealNode (I ⟨s.val / 8, by omega⟩)) (d : Fin 128) :
    out1_8 x0 x1 x2 x3 x4 x5 x6 (ix2 s d)
      = ((P.mixed (I ⟨s.val / 8, by omega⟩) ⟨s.val % 8, by omega⟩ d : ℝ) : EReal) := by
  frame_out
  have hM : ∀ r d, k1_pay8 x0 x1 x2 x3 x4 x5 x6 (ix2 r d)
      = ((P.mem ⟨r.val / 8, by omega⟩ (I ⟨r.val % 8, by omega⟩) d : ℝ) : EReal) := fun r d => by
    refine Eq.trans ?_ (mem_row B r d)
    pointwise [k1_pay8, k1_pay3, k1_pay2]
  have hE : ∀ r : Fin 4096, FloatOps.exp2 (F := Ideal) (φ := .f32)
      ((∑ c, ((P.mem ⟨r.val / 8, by omega⟩ (I ⟨r.val % 8, by omega⟩) c : ℝ) : EReal)
        * ((P.carried (I ⟨s.val / 8, by omega⟩) ⟨s.val % 8, by omega⟩ c : ℝ) : EReal))
        + (if r.val % 8 = s.val / 8 then (0 : EReal) else ⊥))
      = if r.val % 8 = s.val / 8 then
          ((Real.exp (P.score (I ⟨s.val / 8, by omega⟩) ⟨s.val % 8, by omega⟩ ⟨r.val / 8, by omega⟩) : ℝ) : EReal)
        else 0 := fun r => by
    by_cases h : r.val % 8 = s.val / 8
    · have e : (⟨r.val % 8, by omega⟩ : Fin 8) = ⟨s.val / 8, by omega⟩ := Fin.ext h
      rw [if_pos h, if_pos h, add_zero, e]
      simp only [← EReal.coe_mul]
      rw [sum_coe, P.sum_mem_carried, exp2_coe]
    · rw [if_neg h, if_neg h, EReal.add_bot, exp2_bot]
  have hP : ∀ r : Fin 4096, ((P.mem ⟨r.val / 8, by omega⟩ (I ⟨r.val % 8, by omega⟩) d : ℝ) : EReal)
      * (if r.val % 8 = s.val / 8 then
          ((Real.exp (P.score (I ⟨s.val / 8, by omega⟩) ⟨s.val % 8, by omega⟩ ⟨r.val / 8, by omega⟩) : ℝ) : EReal)
        else 0)
      = if r.val % 8 = s.val / 8 then ((P.mem ⟨r.val / 8, by omega⟩ (I ⟨s.val / 8, by omega⟩) d
          * Real.exp (P.score (I ⟨s.val / 8, by omega⟩) ⟨s.val % 8, by omega⟩ ⟨r.val / 8, by omega⟩) : ℝ) : EReal)
        else 0 := fun r => by
    by_cases h : r.val % 8 = s.val / 8
    · have e : (⟨r.val % 8, by omega⟩ : Fin 8) = ⟨s.val / 8, by omega⟩ := Fin.ext h
      rw [if_pos h, if_pos h, e, EReal.coe_mul]
    · rw [if_neg h, if_neg h, mul_zero]
  pointwise [k1_pay1, k1_pay7]
  simp only [hM, B.carried_eq s hs, B.mask_eq, hE, hP]
  refine (congrArg₂ Ideal.div
    (sum_rows ⟨s.val / 8, by omega⟩ fun j => ((P.mem j (I ⟨s.val / 8, by omega⟩) d
      * Real.exp (P.score (I ⟨s.val / 8, by omega⟩) ⟨s.val % 8, by omega⟩ j) : ℝ) : EReal))
    (sum_rows ⟨s.val / 8, by omega⟩ fun j =>
      ((Real.exp (P.score (I ⟨s.val / 8, by omega⟩) ⟨s.val % 8, by omega⟩ j) : ℝ) : EReal))).trans ?_
  rw [sum_coe, sum_coe]
  exact div_coe (P.total_pos _ _).ne'

end Cert.KernelIdeal.Value

end
-- ==== Proof.KernelMain.lean ====
/- What the kernel's main call leaves in its two result arrays: the new edges and the mixed memories. -/
module

public import proofs.«01_k».proof.Proof.KernelBlock

@[expose] public section

set_option maxRecDepth 16384

noncomputable section

open Idealize.ShloMosaic Idealize.ShloMosaic.TcCoe Idealize.SL.Sem

namespace Cert.KernelIdeal.Value

open Cert.KernelIdeal Cert.KernelIdeal.Gen Cert.Layer

/-- The arrays the main call reads: row `r` of the carried queries is head `r % 8` of node `r / 8`, of which nothing
    is said unless the node's features are real numbers. -/
structure Operands (P : Data) (x0 : Vec Ideal S512x512x128 .f32) (x1 x2 : Vec Ideal S512x128 .f32) (x3 : Vec Ideal S4096x128 .f32)
    (x4 x5 : Vec Ideal S128x128 .f32) (x6 : Vec Ideal S4096x64 .f32) : Prop where
  edge_eq : ∀ j i d, x0 (ix3 j i d) = P.edge j i d
  src_eq : ∀ i d, x1 (ix2 i d) = P.preSrc i d
  tar_eq : ∀ j d, x2 (ix2 j d) = P.preTar j d
  carried_eq : ∀ (r : Fin 4096), P.RealNode ⟨r.val / 8, by omega⟩ → ∀ d,
    x3 (ix2 r d) = (P.carried ⟨r.val / 8, by omega⟩ ⟨r.val % 8, by omega⟩ d : EReal)
  wpm_eq : ∀ k d, x4 (ix2 k d) = P.Wpm d ⟨k.val, by omega⟩
  wpe_eq : ∀ k d, x5 (ix2 k d) = P.Wpe d k
  mask_eq : ∀ (r : Fin 4096) (s : Fin 64), x6 (ix2 r s) = if r.val % 8 = s.val / 8 then 0 else ⊥

/-- The block every window reads or writes at a grid point. -/
theorem idx1 : ∀ t : Fin cfg1.N, win1_0.index t = ![0, t.val, 0] ∧ win1_1.index t = ![t.val, 0] ∧ win1_2.index t = ![0, 0]
    ∧ win1_3.index t = ![t.val, 0] ∧ win1_4.index t = ![0, 0] ∧ win1_5.index t = ![0, 0] ∧ win1_6.index t = ![0, 0]
    ∧ win1_7.index t = ![0, t.val, 0] ∧ win1_8.index t = ![t.val, 0] :=
  (by decide +kernel : ∀ t : Fin grid1.N, _)

/-- The new edges' blocks cover their array. -/
theorem covers1_7 : (cfg1.win 7).Covers := by decide +kernel

/-- The node that is number `b` among the eight of grid point `t`. -/
def nodeAt (t : Fin cfg1.N) (b : Fin 8) : Fin 512 := ⟨t.val * 8 + b.val, by have : t.val < 64 := t.isLt; omega⟩

/-- The new edges as an array. -/
def newEdges (P : Data) : Vec Ideal S512x512x128 .f32 := fun y => ((P.enew (y 0) (y 1) (y 2) : ℝ) : EReal)

variable (V : (c : Dev nD) → (b : Ref sig .tc) → Buf (Elt Ideal) ((c : Thread nD τ).loc b)) (c : Dev nD) {P : Data}
  (O : Operands P (V c main_arg1) (V c main_v7_0) (V c main_v7_1) (V c main_v9) (V c main_v1) (V c main_v17) (V c main_v16))

include O

/-- The blocks of a grid point hold the rows of its eight nodes. -/
theorem blocks (t : Fin cfg1.N) : Blocks P (nodeAt t) (iblk1 V c 0 t) (iblk1 V c 1 t) (iblk1 V c 2 t) (iblk1 V c 3 t)
    (iblk1 V c 4 t) (iblk1 V c 5 t) (iblk1 V c 6 t) where
  edge_eq j b d := by
    refine Eq.trans ?_ (O.edge_eq j (nodeAt t b) d)
    blk_point [iblk1, idx1 t, nodeAt]
  src_eq b d := by
    refine Eq.trans ?_ (O.src_eq (nodeAt t b) d)
    blk_point [iblk1, idx1 t, nodeAt]
  tar_eq j d := by
    refine Eq.trans ?_ (O.tar_eq j d)
    blk_point [iblk1, idx1 t]
  carried_eq s hs d := by
    have ht : t.val < 64 := t.isLt
    have e1 : (⟨(t.val * 64 + s.val) / 8, by omega⟩ : Fin 512) = nodeAt t ⟨s.val / 8, by omega⟩ :=
      Fin.ext (by change (t.val * 64 + s.val) / 8 = t.val * 8 + s.val / 8; omega)
    have e2 : (⟨(t.val * 64 + s.val) % 8, by omega⟩ : Fin 8) = ⟨s.val % 8, by omega⟩ :=
      Fin.ext (by change (t.val * 64 + s.val) % 8 = s.val % 8; omega)
    have h := O.carried_eq ⟨t.val * 64 + s.val, by omega⟩
    rw [e1, e2] at h
    replace h := h hs d
    refine Eq.trans ?_ h
    blk_point [iblk1, idx1 t]
  wpm_eq k d := by
    refine Eq.trans ?_ (O.wpm_eq k d)
    blk_point [iblk1, idx1 t]
  wpe_eq k d := by
    refine Eq.trans ?_ (O.wpe_eq k d)
    blk_point [iblk1, idx1 t]
  mask_eq r s := by
    refine Eq.trans ?_ (O.mask_eq r s)
    blk_point [iblk1, idx1 t]

/-- The new edges of the eight nodes of a grid point, at any index of their block. -/
theorem out1_7_at (t : Fin cfg1.N) (y : S512x8x128.Idx) :
    out1_7 (iblk1 V c 0 t) (iblk1 V c 1 t) (iblk1 V c 2 t) (iblk1 V c 3 t) (iblk1 V c 4 t) (iblk1 V c 5 t) (iblk1 V c 6 t) y
      = newEdges P (ix3 (y 0) (nodeAt t (y 1)) (y 2)) := by
  rw [eq_ix3 y]
  exact out1_7_apply (blocks V c O t) _ _ _

/-- The first result: the new edges. -/
theorem final1_7 : (dat1 (F := Ideal) V c).arrAt 7 cfg1.N = newEdges P := by
  refine (dat1 V c).arrAt_eq_of_covers 7 _ covers1_7 fun t hf y => ?_
  blk_simp
  rw [after1_7]
  refine (out1_7_at V c O t y).trans (congrArg (newEdges P) ?_)
  funext a
  fin_cases a
  · apply Fin.ext; blk_simp [idx1 t]; rfl
  · apply Fin.ext; blk_simp [idx1 t]; rfl
  · apply Fin.ext; blk_simp [idx1 t]; rfl

omit O in
/-- What the grid points leave in the second result: row `r` is row `r % 64` of what grid point `r / 64` computes. -/
def mixedRows : Vec Ideal S4096x128 .f32 := fun y =>
  let t : Fin cfg1.N := ⟨(y 0).val / 64, by have : (y 0).val < 4096 := (y 0).isLt; change _ < 64; omega⟩
  out1_8 (iblk1 V c 0 t) (iblk1 V c 1 t) (iblk1 V c 2 t) (iblk1 V c 3 t) (iblk1 V c 4 t) (iblk1 V c 5 t) (iblk1 V c 6 t)
    (ix2 ⟨(y 0).val % 64, by omega⟩ (y 1))

omit O in
/-- A row of a grid point's block is the row of the array that the block puts it at. -/
theorem out1_8_at (t : Fin cfg1.N) (y : S64x128.Idx) (z : S4096x128.Idx) (h0 : (z 0).val = t.val * 64 + (y 0).val) (h1 : z 1 = y 1) :
    out1_8 (iblk1 V c 0 t) (iblk1 V c 1 t) (iblk1 V c 2 t) (iblk1 V c 3 t) (iblk1 V c 4 t) (iblk1 V c 5 t) (iblk1 V c 6 t) y
      = mixedRows V c z := by
  have hy : (y 0).val < 64 := (y 0).isLt
  have hz : (z 0).val < 4096 := (z 0).isLt
  have et : (⟨(z 0).val / 64, by change _ < 64; omega⟩ : Fin cfg1.N) = t := Fin.ext (by change (z 0).val / 64 = _; omega)
  have ey : (ix2 ⟨(z 0).val % 64, by omega⟩ (z 1) : S64x128.Idx) = y := by
    rw [h1]
    exact (congrArg (ix2 · (y 1)) (Fin.ext (by change (z 0).val % 64 = (y 0).val; omega))).trans (eq_ix2 y).symm
  exact (congrArg₂ (fun (t : Fin cfg1.N) (y : S64x128.Idx) => out1_8 (iblk1 V c 0 t) (iblk1 V c 1 t) (iblk1 V c 2 t) (iblk1 V c 3 t)
    (iblk1 V c 4 t) (iblk1 V c 5 t) (iblk1 V c 6 t) y) et ey).symm

omit O in
/-- The second result, a row per node and head. -/
theorem final1_8 : (dat1 (F := Ideal) V c).arrAt 8 cfg1.N = mixedRows V c := by
  refine (dat1 V c).arrAt_eq_of_covers 8 _ (by decide +kernel) fun t hf y => ?_
  rw [after1_8]
  refine out1_8_at V c t y _ ?_ ?_
  · blk_simp [idx1 t]
  · apply Fin.ext; blk_simp [idx1 t]

/-- The row of head `r % 8` of node `r / 8` holds its mixed memories if the node's features are real numbers. -/
theorem mixedRows_apply (r : Fin 4096) (hr : P.RealNode ⟨r.val / 8, by omega⟩) (d : Fin 128) :
    mixedRows V c (ix2 r d) = ((P.mixed ⟨r.val / 8, by omega⟩ ⟨r.val % 8, by omega⟩ d : ℝ) : EReal) := by
  have e1 : nodeAt ⟨r.val / 64, by change _ < 64; omega⟩ ⟨r.val % 64 / 8, by omega⟩ = ⟨r.val / 8, by omega⟩ :=
    Fin.ext (by change r.val / 64 * 8 + r.val % 64 / 8 = r.val / 8; omega)
  have e2 : (⟨r.val % 64 % 8, by omega⟩ : Fin 8) = ⟨r.val % 8, by omega⟩ := Fin.ext (by change r.val % 64 % 8 = r.val % 8; omega)
  have h := out1_8_apply (blocks V c O ⟨r.val / 64, by change _ < 64; omega⟩) ⟨r.val % 64, by omega⟩
  rw [e1, e2] at h
  exact h hr d

end Cert.KernelIdeal.Value

end
-- ==== Proof.KernelEpilogue.lean ====
/- What the kernel's last call leaves in its result array: the nodes' new features. -/
module

public import proofs.«01_k».proof.Proof.KernelMath
public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Value

open Cert.KernelIdeal Cert.KernelIdeal.Gen Cert.Layer

/-- The arrays the last call reads: row `r` of the mixed memories is head `r % 8` of node `r / 8`, of which
    nothing is said unless the node's features are real numbers; every weight is transposed. -/
structure LastOperands (P : Data) (x0 : Vec Ideal S4096x128 .f32) (x1 : Vec Ideal S512x128 .f32) (x2 x3 : Vec Ideal S128x128 .f32)
    (x4 : Vec Ideal S128x2048 .f32) (x5 : Vec Ideal S2048x128 .f32) : Prop where
  mixed_eq : ∀ (r : Fin 4096), P.RealNode ⟨r.val / 8, by omega⟩ → ∀ d,
    x0 (ix2 r d) = (P.mixed ⟨r.val / 8, by omega⟩ ⟨r.val % 8, by omega⟩ d : EReal)
  node_eq : ∀ i d, x1 (ix2 i d) = P.node i d
  wv_eq : ∀ k d, x2 (ix2 k d) = P.Wv d k
  wo_eq : ∀ k d, x3 (ix2 k d) = P.Wo d k
  w1_eq : ∀ k f, x4 (ix2 k f) = P.W1 f k
  w2_eq : ∀ f d, x5 (ix2 f d) = P.W2 d f

/-- The kernel's test of a head's number against a feature's number divided by sixteen, rounded down. -/
theorem head_bit : ∀ (e : Fin 128) (h : Fin 8), (IntOp.cmpi CmpIPredicate.eq (BitVec.ofNat 32 h.val)
      (Scalar.select
        (IntOp.andi
          (IntOp.cmpi CmpIPredicate.ne
            (IntOp.subi (BitVec.setWidth 32 (IntOp.cmpi CmpIPredicate.sgt (BitVec.ofNat 32 e.val) 0#32))
              (BitVec.setWidth 32 (IntOp.cmpi CmpIPredicate.slt (BitVec.ofNat 32 e.val) 0#32)))
            (Scalar.subi (Scalar.extui (Scalar.cmpi CmpIPredicate.sgt 16#32 0#32))
              (Scalar.extui (Scalar.cmpi CmpIPredicate.slt 16#32 0#32))))
          (IntOp.cmpi CmpIPredicate.ne (IntOp.remsi ArithUnit.vector (BitVec.ofNat 32 e.val) 16#32) 0#32))
        (IntOp.subi (IntOp.divsi ArithUnit.vector (BitVec.ofNat 32 e.val) 16#32) 1#32)
        (IntOp.divsi ArithUnit.vector (BitVec.ofNat 32 e.val) 16#32)))
    = if h = head e then 1#1 else 0#1 := by
  decide +kernel

/-- A choice by such a test. -/
theorem select_ite {p : Prop} [Decidable p] (a b : EReal) : Scalar.select (if p then 1#1 else 0#1) a b = if p then a else b := by
  split_ifs <;> rfl

/-- The nodes' new features as an array. -/
def newNodes (P : Data) : Vec Ideal S512x128 .f32 := fun y => ((P.out (y 0) (y 1) : ℝ) : EReal)

section Block

variable {P : Data} {x0 : Vec Ideal S4096x128 .f32} {x1 : Vec Ideal S512x128 .f32} {x2 x3 : Vec Ideal S128x128 .f32}
    {x4 : Vec Ideal S128x2048 .f32} {x5 : Vec Ideal S2048x128 .f32} (O : LastOperands P x0 x1 x2 x3 x4 x5)

include O

/-- A node's features with its projected attention output added, where the features are real numbers. -/
theorem k2_pay1_apply {i : Fin 512} (hi : P.RealNode i) (d : Fin 128) :
    k2_pay1 x0 x2 x1 x3 (ix2 i d) = P.node i d + ∑ e, P.attn i e * P.Wo d e := by
  pointwise [k2_pay1]
  have em : ∀ (h : Fin 8) (k : Fin 128), x0 (ix2 ⟨i.val * 8 + h.val, by omega⟩ k) = ((P.mixed i h k : ℝ) : EReal) := fun h k => by
    have e1 : (⟨(i.val * 8 + h.val) / 8, by omega⟩ : Fin 512) = i := Fin.ext (by change (i.val * 8 + h.val) / 8 = _; omega)
    have e2 : (⟨(i.val * 8 + h.val) % 8, by omega⟩ : Fin 8) = h := Fin.ext (by change (i.val * 8 + h.val) % 8 = _; omega)
    have e := O.mixed_eq ⟨i.val * 8 + h.val, by omega⟩
    rw [e1, e2] at e
    exact e hi k
  simp only [head_bit, select_ite, em, O.wv_eq, O.wo_eq, O.node_eq]
  simp only [Finset.sum_ite_eq', Finset.mem_univ, if_true, Data.sum_mixed]

/-- Any node's features with its projected attention output added are the features with something added. -/
theorem k2_pay1_sum (i : Fin 512) : ∃ X : Fin 128 → EReal, ∀ d, k2_pay1 x0 x2 x1 x3 (ix2 i d) = P.node i d + X d := by
  have h : ∀ d, ∃ b : EReal, k2_pay1 x0 x2 x1 x3 (ix2 i d) = P.node i d + b := fun d => by
    eapply Exists.intro
    pointwise [k2_pay1]
    exact congrArg (· + _) (O.node_eq i d)
  choose X hX using h
  exact ⟨X, hX⟩

/-- The nodes after attention. -/
theorem k2_pay1_norm (i : Fin 512) (d : Fin 128) :
    Cert.Layer.enorm (fun k => k2_pay1 x0 x2 x1 x3 (ix2 i k)) d = ((P.mid i d : ℝ) : EReal) := by
  refine (enorm_eq _ d).trans (congrArg Real.toEReal ?_)
  by_cases hi : P.RealNode i
  · simp only [k2_pay1_apply O hi]
    rfl
  · obtain ⟨X, hX⟩ := k2_pay1_sum O i
    simp only [hX]
    exact P.mid_of_infinite hi X d

/-- The nodes' new features from the features with the attention output added. -/
theorem k2_pay2_apply {v : FVec Ideal S512x128 .f32}
    (hv : ∀ i d, Cert.Layer.enorm (fun k => v (ix2 i k)) d = ((P.mid i d : ℝ) : EReal)) (i : Fin 512) (d : Fin 128) :
    k2_pay2 v x4 x5 (ix2 i d) = ((P.out i d : ℝ) : EReal) := by
  pointwise [k2_pay2]
  simp only [Cert.Layer.enorm, emean, evar] at hv
  simp only [hv, O.w1_eq, O.w2_eq]
  exact enorm_eq (fun c => (P.mid i c : EReal) + ∑ f, P.hidden i f * P.W2 c f) d

/-- What the result's buffer holds after the body. -/
theorem out2_6_apply (y : S512x128.Idx) : out2_6 x0 x1 x2 x3 x4 x5 y = newNodes P y := by
  rw [eq_ix2 y]
  frame_out
  exact k2_pay2_apply O (k2_pay1_norm O) _ _

end Block

/-- Every window's block is its whole array. -/
theorem idx2 : ∀ t : Fin cfg2.N, win2_0.index t = ![0, 0] ∧ win2_1.index t = ![0, 0] ∧ win2_2.index t = ![0, 0]
    ∧ win2_3.index t = ![0, 0] ∧ win2_4.index t = ![0, 0] ∧ win2_5.index t = ![0, 0] ∧ win2_6.index t = ![0, 0] :=
  (by decide +kernel : ∀ t : Fin grid2.N, _)

variable (V : (c : Dev nD) → (b : Ref sig .tc) → Buf (Elt Ideal) ((c : Thread nD τ).loc b)) (c : Dev nD) {P : Data}
  (O : LastOperands P (V c main_v18_1) (V c main_arg0) (V c main_v19) (V c main_v20) (V c main_v21) (V c main_v22))

include O

/-- The blocks of the last call hold what its arrays hold. -/
theorem lastBlocks (t : Fin cfg2.N) : LastOperands P (iblk2 V c 0 t) (iblk2 V c 1 t) (iblk2 V c 2 t) (iblk2 V c 3 t)
    (iblk2 V c 4 t) (iblk2 V c 5 t) where
  mixed_eq r hr d := by
    refine Eq.trans ?_ (O.mixed_eq r hr d)
    blk_point [iblk2, idx2 t]
  node_eq i d := by
    refine Eq.trans ?_ (O.node_eq i d)
    blk_point [iblk2, idx2 t]
  wv_eq k d := by
    refine Eq.trans ?_ (O.wv_eq k d)
    blk_point [iblk2, idx2 t]
  wo_eq k d := by
    refine Eq.trans ?_ (O.wo_eq k d)
    blk_point [iblk2, idx2 t]
  w1_eq k f := by
    refine Eq.trans ?_ (O.w1_eq k f)
    blk_point [iblk2, idx2 t]
  w2_eq f d := by
    refine Eq.trans ?_ (O.w2_eq f d)
    blk_point [iblk2, idx2 t]

/-- The last call's result: the nodes' new features. -/
theorem final2_6 : (dat2 (F := Ideal) V c).arrAt 6 cfg2.N = newNodes P := by
  refine (dat2 V c).arrAt_eq_of_after_last 6 t2_0 (by decide +kernel) _ fun j => ?_
  blk_simp
  rw [after2_6]
  exact out2_6_apply (lastBlocks V c O t2_0) j

end Cert.KernelIdeal.Value

end
-- ==== Proof.KernelMask.lean ====
/- The mask the host computes for the main call: zero where a row's node is a column's, minus infinity elsewhere. -/
module

public import proofs.«01_k».proof.Proof.Gen.KernelIdeal.Frame
public import proofs.«01_k».proof.Proof.Softmax
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.KernelIdeal.Value

open Cert.KernelIdeal Cert.KernelIdeal.Gen

variable (W : Valuation τ sig (Elt Ideal))

/-- The remainder of the row numbers by eight. -/
theorem after_remainder (h1 : W (Proc.devRef .tc main_v10) = iotaInDim S4096x64 32 0)
    (h2 : W (Proc.devRef .tc main_c) = constantI S_ 32 8#32) (r : Fin 4096) (s : Fin 64) :
    (StableHlo.after hostOps1_1 W (Proc.devRef .tc main_v11) : IVec S4096x64 32) (ix2 r s) = BitVec.ofNat 32 (r.val % 8) := by
  after_results
  simp -implicitDefEqProofs only [h1, h2, StableHlo.TRef.toBuf, StableHlo.TRef.ofBuf, cast_cast, cast_eq]
  pointwise []
  have h8 : constantI S_ 32 8#32 ix0 = 8#32 := rfl
  simp only [id, h8]
  clear h8 h1 h2
  revert r
  decide +kernel

/-- Rounding the quotient by eight down, at every column number. -/
theorem quotient_bits : ∀ s : Fin 64,
    Scalar.select
        (IntOp.andi
          (IntOp.cmpi CmpIPredicate.ne
            (if BitVec.ofNat 32 s.val = 0 then 0 else if (BitVec.ofNat 32 s.val).msb = true then -1 else 1 : BitVec 32)
            (if 8#32 = 0 then 0 else if (8#32).msb = true then -1 else 1 : BitVec 32))
          (IntOp.cmpi CmpIPredicate.ne (IntOp.remsi ArithUnit.host (BitVec.ofNat 32 s.val) 8#32) 0#32))
        (IntOp.subi (IntOp.divsi ArithUnit.host (BitVec.ofNat 32 s.val) 8#32) 1#32)
        (IntOp.divsi ArithUnit.host (BitVec.ofNat 32 s.val) 8#32)
      = BitVec.ofNat 32 (s.val / 8) := by
  decide +kernel

/-- The quotient of the column numbers by eight. -/
theorem after_quotient (h1 : W (Proc.devRef .tc main_v12) = iotaInDim S4096x64 32 1)
    (h2 : W (Proc.devRef .tc main_c_0) = constantI S_ 32 8#32) (r : Fin 4096) (s : Fin 64) :
    (StableHlo.after hostOps1_3 W (Proc.devRef .tc main_v13) : IVec S4096x64 32) (ix2 r s) = BitVec.ofNat 32 (s.val / 8) := by
  after_results
  simp -implicitDefEqProofs only [h1, h2, StableHlo.TRef.toBuf, StableHlo.TRef.ofBuf, cast_cast, cast_eq]
  pointwise []
  have h8 : constantI S_ 32 8#32 ix0 = 8#32 := rfl
  simp only [id, h8]
  exact quotient_bits s

/-- The comparison of the two. -/
theorem after_compare (h1 : ∀ (r : Fin 4096) (s : Fin 64),
      (W (Proc.devRef .tc main_v11) : IVec S4096x64 32) (ix2 r s) = BitVec.ofNat 32 (r.val % 8))
    (h2 : ∀ (r : Fin 4096) (s : Fin 64), (W (Proc.devRef .tc main_v13) : IVec S4096x64 32) (ix2 r s) = BitVec.ofNat 32 (s.val / 8))
    (r : Fin 4096) (s : Fin 64) :
    (StableHlo.after hostOps1_4 W (Proc.devRef .tc main_v14) : IVec S4096x64 1) (ix2 r s)
      = if r.val % 8 = s.val / 8 then 1#1 else 0#1 := by
  have hc : ∀ a b : Fin 8, IntOp.cmpi .eq (BitVec.ofNat 32 a.val) (BitVec.ofNat 32 b.val) = if a.val = b.val then 1#1 else 0#1 := by
    decide +kernel
  after_results
  refine (congrArg₂ (IntOp.cmpi .eq) (h1 r s) (h2 r s)).trans ?_
  exact hc ⟨r.val % 8, by omega⟩ ⟨s.val / 8, by omega⟩

/-- The choice between zero and minus infinity. -/
theorem after_where (h1 : W (Proc.devRef .tc main_cst) = constant (F := Ideal) S_ .f32 0x00000000#32)
    (h2 : W (Proc.devRef .tc main_cst_1) = constant (F := Ideal) S_ .f32 0xFF800000#32) (r : Fin 4096) (s : Fin 64)
    (h : (W (Proc.devRef .tc main_v14) : IVec S4096x64 1) (ix2 r s) = if r.val % 8 = s.val / 8 then 1#1 else 0#1) :
    (StableHlo.after hostOps1_5 W (Proc.devRef .tc main_v15) : Vec Ideal S4096x64 .f32) (ix2 r s)
      = if r.val % 8 = s.val / 8 then (0 : EReal) else (⊥ : EReal) := by
  after_results
  simp -implicitDefEqProofs only [h1, h2, StableHlo.TRef.toBuf, StableHlo.TRef.ofBuf, cast_cast, cast_eq]
  pointwise []
  rw [Cert.Layer.ofBits_bot]
  refine (congrArg (Scalar.select · (0 : EReal) ⊥) h).trans ?_
  split_ifs <;> rfl

variable (m : (ℓ : Loc nD τ sig) → Buf (Elt Ideal) ℓ) (ρ : Dev nD → PrngReg) (c : Dev nD)

/-- The mask as the main call reads it. -/
theorem mask_apply (r : Fin 4096) (s : Fin 64) :
    (V9 m ρ c main_v16 : Vec Ideal S4096x64 .f32) (ix2 r s) = if r.val % 8 = s.val / 8 then (0 : EReal) else (⊥ : EReal) := by
  have e9 : V9 m ρ c main_v16 = W8 m ρ c (Proc.devRef .tc main_v15) := by
    change StableHlo.after hostOps1_6 (W8 m ρ c) (Proc.devRef .tc main_v16) = _
    after_results
    try rfl
  have h10 : W3 m ρ c (Proc.devRef .tc main_v10) = iotaInDim S4096x64 32 0 := by
    change StableHlo.after hostOps1 (W2 m ρ c) (Proc.devRef .tc main_v10) = _
    after_results
  have hc : W3 m ρ c (Proc.devRef .tc main_c) = constantI S_ 32 8#32 := by
    change StableHlo.after hostOps1 (W2 m ρ c) (Proc.devRef .tc main_c) = _
    after_results
  have h12 : W5 m ρ c (Proc.devRef .tc main_v12) = iotaInDim S4096x64 32 1 := by
    change StableHlo.after hostOps1_2 (W4 m ρ c) (Proc.devRef .tc main_v12) = _
    after_results
  have hc0 : W5 m ρ c (Proc.devRef .tc main_c_0) = constantI S_ 32 8#32 := by
    change StableHlo.after hostOps1_2 (W4 m ρ c) (Proc.devRef .tc main_c_0) = _
    after_results
  have h11 : W6 m ρ c (Proc.devRef .tc main_v11) = W4 m ρ c (Proc.devRef .tc main_v11) :=
    (W6_of m ρ c main_v11 (by decide)).trans (W5_of m ρ c main_v11 (by decide))
  have hs : W7 m ρ c (Proc.devRef .tc main_cst) = constant (F := Ideal) S_ .f32 0x00000000#32 := by
    change StableHlo.after hostOps1_4 (W6 m ρ c) (Proc.devRef .tc main_cst) = _
    after_results
  have hs1 : W7 m ρ c (Proc.devRef .tc main_cst_1) = constant (F := Ideal) S_ .f32 0xFF800000#32 := by
    change StableHlo.after hostOps1_4 (W6 m ρ c) (Proc.devRef .tc main_cst_1) = _
    after_results
  refine (congrFun e9 (ix2 r s)).trans (after_where (W7 m ρ c) hs hs1 r s ?_)
  exact after_compare (W6 m ρ c) (fun r s => (congrFun h11 (ix2 r s)).trans (after_remainder (W3 m ρ c) h10 hc r s))
    (fun r s => after_quotient (W5 m ρ c) h12 hc0 r s) r s

end Cert.KernelIdeal.Value

end
-- ==== Proof.KernelHost.lean ====
/- What the host hands to the kernel's three calls, when the arguments hold a layer's data. -/
module

public import proofs.«01_k».proof.Proof.Args
public import proofs.«01_k».proof.Proof.KernelPrologue
public import proofs.«01_k».proof.Proof.KernelMain
public import proofs.«01_k».proof.Proof.KernelEpilogue
public import proofs.«01_k».proof.Proof.KernelMask

@[expose] public section

set_option maxRecDepth 16384

noncomputable section

open Idealize.ShloMosaic Idealize.ShloMosaic.TcCoe Idealize.SL.Sem

namespace Cert.KernelIdeal.Value

open Cert.KernelIdeal Cert.KernelIdeal.Gen Cert.Layer

section Stretches

variable (W : Valuation τ sig (Elt Ideal))

/-- The edges' columns of the memory weights, transposed. -/
theorem after_v1 (k d : Fin 128) : (StableHlo.after hostOps0 W (Proc.devRef .tc main_v1) : Vec Ideal S128x128 .f32) (ix2 k d)
    = (W (Proc.devRef .tc main_arg3) : Vec Ideal S128x384 .f32) (ix2 d ⟨k.val, by omega⟩) := by
  after_results
  pointwise []

/-- The sources' columns of the memory weights, transposed. -/
theorem after_v3 (k d : Fin 128) : (StableHlo.after hostOps0 W (Proc.devRef .tc main_v3) : Vec Ideal S128x128 .f32) (ix2 k d)
    = (W (Proc.devRef .tc main_arg3) : Vec Ideal S128x384 .f32) (ix2 d ⟨128 + k.val, by omega⟩) := by
  after_results
  pointwise []

/-- The targets' columns of the memory weights, transposed. -/
theorem after_v5 (k d : Fin 128) : (StableHlo.after hostOps0 W (Proc.devRef .tc main_v5) : Vec Ideal S128x128 .f32) (ix2 k d)
    = (W (Proc.devRef .tc main_arg3) : Vec Ideal S128x384 .f32) (ix2 d ⟨256 + k.val, by omega⟩) := by
  after_results
  pointwise []

/-- The query weights, transposed. -/
theorem after_v6 (k d : Fin 128) : (StableHlo.after hostOps0 W (Proc.devRef .tc main_v6) : Vec Ideal S128x128 .f32) (ix2 k d)
    = (W (Proc.devRef .tc main_arg13) : Vec Ideal S128x128 .f32) (ix2 d k) := by
  after_results
  pointwise []

/-- The carried queries with the heads of a node side by side. -/
theorem after_v9 (r : Fin 4096) (d : Fin 128) :
    (StableHlo.after hostOps1 W (Proc.devRef .tc main_v9) : Vec Ideal S4096x128 .f32) (ix2 r d)
      = (W (Proc.devRef .tc main_v7_2) : Vec Ideal S8x512x128 .f32) (ix3 ⟨r.val % 8, by omega⟩ ⟨r.val / 8, by omega⟩ d) := by
  after_results
  pointwise []

/-- The edge weights, transposed. -/
theorem after_v17 (k d : Fin 128) : (StableHlo.after hostOps1_6 W (Proc.devRef .tc main_v17) : Vec Ideal S128x128 .f32) (ix2 k d)
    = (W (Proc.devRef .tc main_arg7) : Vec Ideal S128x128 .f32) (ix2 d k) := by
  after_results
  pointwise []

/-- The value weights, transposed. -/
theorem after_v19 (k d : Fin 128) : (StableHlo.after hostOps2 W (Proc.devRef .tc main_v19) : Vec Ideal S128x128 .f32) (ix2 k d)
    = (W (Proc.devRef .tc main_arg17) : Vec Ideal S128x128 .f32) (ix2 d k) := by
  after_results
  pointwise []

/-- The output weights, transposed. -/
theorem after_v20 (k d : Fin 128) : (StableHlo.after hostOps2 W (Proc.devRef .tc main_v20) : Vec Ideal S128x128 .f32) (ix2 k d)
    = (W (Proc.devRef .tc main_arg19) : Vec Ideal S128x128 .f32) (ix2 d k) := by
  after_results
  pointwise []

/-- The first feed-forward weights, transposed. -/
theorem after_v21 (k : Fin 128) (f : Fin 2048) :
    (StableHlo.after hostOps2 W (Proc.devRef .tc main_v21) : Vec Ideal S128x2048 .f32) (ix2 k f)
      = (W (Proc.devRef .tc main_arg21) : Vec Ideal S2048x128 .f32) (ix2 f k) := by
  after_results
  pointwise []

/-- The second feed-forward weights, transposed. -/
theorem after_v22 (f : Fin 2048) (d : Fin 128) :
    (StableHlo.after hostOps2 W (Proc.devRef .tc main_v22) : Vec Ideal S2048x128 .f32) (ix2 f d)
      = (W (Proc.devRef .tc main_arg23) : Vec Ideal S128x2048 .f32) (ix2 d f) := by
  after_results
  pointwise []

end Stretches

variable (m : (ℓ : Loc nD τ sig) → Buf (Elt Ideal) ℓ) (ρ : Dev nD → PrngReg) (c : Dev nD) {P : Data}

/-- Between the first call and the main one a buffer that no host operation writes keeps its contents. -/
theorem W9_kept (r : Ref sig .tc) (h : (r ∉ hostOps1_W ∧ r ∉ hostOps1_1_W ∧ r ∉ hostOps1_2_W) ∧ r ∉ hostOps1_3_W ∧ r ∉ hostOps1_4_W
    ∧ r ∉ hostOps1_5_W ∧ r ∉ hostOps1_6_W) : W9 m ρ c (Proc.devRef .tc r) = W2 m ρ c (Proc.devRef .tc r) :=
  (W9_of m ρ c r h.2.2.2.2).trans <| (W8_of m ρ c r h.2.2.2.1).trans <| (W7_of m ρ c r h.2.2.1).trans <|
    (W6_of m ρ c r h.2.1).trans <| (W5_of m ρ c r h.1.2.2).trans <| (W4_of m ρ c r h.1.2.1).trans <| W3_of m ρ c r h.1.1

/-- The scale is the real number it names. -/
theorem named_scale : Named.named (F := Ideal) (φ := .f32) κ "scale" 0x3EB8AA3B#32 = ((scale : ℝ) : EReal) :=
  IdealRules.named_const.ideal_named_scalar _ _ _ _ rfl

variable (G : Given P (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13)) (m ((c.tc : Thread nD τ).loc main_arg14))
    (m ((c.tc : Thread nD τ).loc main_arg15)) (m ((c.tc : Thread nD τ).loc main_arg16)) (m ((c.tc : Thread nD τ).loc main_arg17))
    (m ((c.tc : Thread nD τ).loc main_arg18)) (m ((c.tc : Thread nD τ).loc main_arg19)) (m ((c.tc : Thread nD τ).loc main_arg20))
    (m ((c.tc : Thread nD τ).loc main_arg21)) (m ((c.tc : Thread nD τ).loc main_arg22)) (m ((c.tc : Thread nD τ).loc main_arg23))
    (m ((c.tc : Thread nD τ).loc main_arg24)) (m ((c.tc : Thread nD τ).loc main_arg25)) (m ((c.tc : Thread nD τ).loc main_arg26))
    (m ((c.tc : Thread nD τ).loc main_arg27)) (m ((c.tc : Thread nD τ).loc main_arg28)))

include G

/-- The first call's first result. -/
theorem src_apply (i : Fin 512) (d : Fin 128) :
    (W2 m ρ c (Proc.devRef .tc main_v7_0) : Vec Ideal S512x128 .f32) (ix2 i d) = P.preSrc i d := by
  have e : W2 m ρ c (Proc.devRef .tc main_v7_0) = k0_pay3 (V1 m ρ c main_arg0) (V1 m ρ c main_v3) :=
    (W2_arr m ρ c 5).trans (final0_5 (V1 m ρ) c)
  refine (congrFun e (ix2 i d)).trans ?_
  have h0 : ∀ k, (V1 m ρ c main_arg0 : Vec Ideal S512x128 .f32) (ix2 i k) = P.node i k := fun k =>
    (congrFun (W1_args m ρ c main_arg0 (by decide)) (ix2 i k)).trans (G.x0_eq i k)
  have h3 : ∀ k, (V1 m ρ c main_v3 : Vec Ideal S128x128 .f32) (ix2 k d) = P.Wpm d ⟨128 + k.val, by omega⟩ := fun k =>
    (after_v3 (W0 m ρ c) k d).trans (G.x3_eq d _)
  generalize V1 m ρ c main_arg0 = a at h0
  generalize V1 m ρ c main_v3 = b at h3
  pointwise [k0_pay3]
  simp only [h0, h3]
  rfl

/-- The first call's second result. -/
theorem tar_apply (j : Fin 512) (d : Fin 128) :
    (W2 m ρ c (Proc.devRef .tc main_v7_1) : Vec Ideal S512x128 .f32) (ix2 j d) = P.preTar j d := by
  have e : W2 m ρ c (Proc.devRef .tc main_v7_1) = k0_pay4 (V1 m ρ c main_arg0) (V1 m ρ c main_v5) :=
    (W2_arr m ρ c 6).trans (final0_6 (V1 m ρ) c)
  refine (congrFun e (ix2 j d)).trans ?_
  have h0 : ∀ k, (V1 m ρ c main_arg0 : Vec Ideal S512x128 .f32) (ix2 j k) = P.node j k := fun k =>
    (congrFun (W1_args m ρ c main_arg0 (by decide)) (ix2 j k)).trans (G.x0_eq j k)
  have h5 : ∀ k, (V1 m ρ c main_v5 : Vec Ideal S128x128 .f32) (ix2 k d) = P.Wpm d ⟨256 + k.val, by omega⟩ := fun k =>
    (after_v5 (W0 m ρ c) k d).trans (G.x3_eq d _)
  generalize V1 m ρ c main_arg0 = a at h0
  generalize V1 m ρ c main_v5 = b at h5
  pointwise [k0_pay4]
  simp only [h0, h5]
  rfl

/-- The first call's third result, for a node of real features. -/
theorem carried_apply (h : Fin 8) {i : Fin 512} (hi : P.RealNode i) (d : Fin 128) :
    (W2 m ρ c (Proc.devRef .tc main_v7_2) : Vec Ideal S8x512x128 .f32) (ix3 h i d) = ((P.carried i h d : ℝ) : EReal) := by
  have e : W2 m ρ c (Proc.devRef .tc main_v7_2)
      = fun j : S8x512x128.Idx => carried (V1 m ρ c main_arg0) (V1 m ρ c main_v6) (V1 m ρ c main_arg15) (j 0) (j 1) (j 2) :=
    (W2_arr m ρ c 7).trans (final0_7 (V1 m ρ) c)
  refine (congrFun e (ix3 h i d)).trans ?_
  have h0 : ∀ k, (V1 m ρ c main_arg0 : Vec Ideal S512x128 .f32) (ix2 i k) = ((P.node i k).toReal : EReal) := fun k =>
    (congrFun (W1_args m ρ c main_arg0 (by decide)) (ix2 i k)).trans ((G.x0_eq i k).trans (hi k))
  have h6 : ∀ k e, (V1 m ρ c main_v6 : Vec Ideal S128x128 .f32) (ix2 k e) = (P.Wq e k : EReal) := fun k e =>
    (after_v6 (W0 m ρ c) k e).trans (G.x13_eq e k)
  have h15 : ∀ e, (V1 m ρ c main_arg15 : Vec Ideal S128x128 .f32) (ix2 e d) = (P.Wk e d : EReal) := fun e =>
    (congrFun (W1_args m ρ c main_arg15 (by decide)) (ix2 e d)).trans (G.x15_eq e d)
  change carried (V1 m ρ c main_arg0) (V1 m ρ c main_v6) (V1 m ρ c main_arg15) h i d = _
  unfold carried
  simp only [h0, h6, h15, named_scale, sum_coe, ← EReal.coe_mul]
  rfl

/-- The main call's operands. -/
theorem operands : Operands P (V9 m ρ c main_arg1) (V9 m ρ c main_v7_0) (V9 m ρ c main_v7_1) (V9 m ρ c main_v9) (V9 m ρ c main_v1)
    (V9 m ρ c main_v17) (V9 m ρ c main_v16) where
  edge_eq j i d := (congrFun (W9_args m ρ c main_arg1 (by decide)) (ix3 j i d)).trans (G.x1_eq j i d)
  src_eq i d := (congrFun (W9_kept m ρ c main_v7_0 (by decide)) (ix2 i d)).trans (src_apply m ρ c G i d)
  tar_eq j d := (congrFun (W9_kept m ρ c main_v7_1 (by decide)) (ix2 j d)).trans (tar_apply m ρ c G j d)
  carried_eq r hr d := by
    have e : W9 m ρ c (Proc.devRef .tc main_v9) = W3 m ρ c (Proc.devRef .tc main_v9) :=
      (W9_of m ρ c main_v9 (by decide)).trans <| (W8_of m ρ c main_v9 (by decide)).trans <|
        (W7_of m ρ c main_v9 (by decide)).trans <| (W6_of m ρ c main_v9 (by decide)).trans <|
        (W5_of m ρ c main_v9 (by decide)).trans <| W4_of m ρ c main_v9 (by decide)
    exact (congrFun e (ix2 r d)).trans ((after_v9 (W2 m ρ c) r d).trans (carried_apply m ρ c G _ hr d))
  wpm_eq k d := by
    have e : W9 m ρ c (Proc.devRef .tc main_v1) = W1 m ρ c (Proc.devRef .tc main_v1) :=
      (W9_kept m ρ c main_v1 (by decide)).trans (W2_of m ρ c main_v1 (by decide))
    exact (congrFun e (ix2 k d)).trans ((after_v1 (W0 m ρ c) k d).trans (G.x3_eq d _))
  wpe_eq k d := (after_v17 (W8 m ρ c) k d).trans ((congrFun (W8_args m ρ c main_arg7 (by decide)) (ix2 d k)).trans (G.x7_eq d k))
  mask_eq r s := mask_apply m ρ c r s

/-- The last call's operands. -/
theorem lastOperands : LastOperands P (V11 m ρ c main_v18_1) (V11 m ρ c main_arg0) (V11 m ρ c main_v19) (V11 m ρ c main_v20)
    (V11 m ρ c main_v21) (V11 m ρ c main_v22) where
  mixed_eq r hr d := by
    have e : W11 m ρ c (Proc.devRef .tc main_v18_1) = mixedRows (V9 m ρ) c :=
      (W11_of m ρ c main_v18_1 (by decide)).trans ((W10_arr m ρ c 8).trans (final1_8 (V9 m ρ) c))
    exact (congrFun e (ix2 r d)).trans (mixedRows_apply (V9 m ρ) c (operands m ρ c G) r hr d)
  node_eq i d := (congrFun (W11_args m ρ c main_arg0 (by decide)) (ix2 i d)).trans (G.x0_eq i d)
  wv_eq k d := (after_v19 (W10 m ρ c) k d).trans ((congrFun (W10_args m ρ c main_arg17 (by decide)) (ix2 d k)).trans (G.x17_eq d k))
  wo_eq k d := (after_v20 (W10 m ρ c) k d).trans ((congrFun (W10_args m ρ c main_arg19 (by decide)) (ix2 d k)).trans (G.x19_eq d k))
  w1_eq k f := (after_v21 (W10 m ρ c) k f).trans ((congrFun (W10_args m ρ c main_arg21 (by decide)) (ix2 f k)).trans (G.x21_eq f k))
  w2_eq f d := (after_v22 (W10 m ρ c) f d).trans ((congrFun (W10_args m ρ c main_arg23 (by decide)) (ix2 d f)).trans (G.x23_eq d f))

/-- The kernel's first result: the nodes' new features. -/
theorem kernel_nodes : W12 m ρ c (Proc.devRef .tc main_v23) = newNodes P :=
  (W12_arr m ρ c 6).trans (final2_6 (V11 m ρ) c (lastOperands m ρ c G))

/-- The kernel's second result: the new edges. -/
theorem kernel_edges : W12 m ρ c (Proc.devRef .tc main_v18_0) = newEdges P :=
  (W12_of m ρ c main_v18_0 (by decide)).trans <| (W11_of m ρ c main_v18_0 (by decide)).trans <|
    (W10_arr m ρ c 7).trans (final1_7 (V9 m ρ) c (operands m ρ c G))

end Cert.KernelIdeal.Value

end
-- ==== Proof.Equation.lean ====
/- The equations of the two results: where the arguments hold a layer's data, the reference's arrays are the kernel's. -/
module

public import proofs.«01_k».proof.Proof.ReferenceNode
public import proofs.«01_k».proof.Proof.KernelHost

@[expose] public section

set_option maxRecDepth 16384

noncomputable section

open Idealize.ShloMosaic Idealize.ShloMosaic.TcCoe

namespace Cert.ReferenceIdeal.Value

open Cert.ReferenceIdeal Cert.ReferenceIdeal.Gen Cert.ReferenceIdeal.Read Cert.Layer

variable {P : Data} {x0 : A S512x128} {x1 : A S512x512x128} {x2 : (⟨S512x512, .i1⟩ : BufTy).Contents (Elt Ideal)}
  {x3 : A S128x384} {x4 : A S128} {x5 : A S128} {x6 : A S128} {x7 : A S128x128} {x8 : A S128} {x9 : A S128} {x10 : A S128}
  {x11 : A S128} {x12 : A S128} {x13 : A S128x128} {x14 : A S128} {x15 : A S128x128} {x16 : A S128} {x17 : A S128x128}
  {x18 : A S128} {x19 : A S128x128} {x20 : A S128} {x21 : A S2048x128} {x22 : A S2048} {x23 : A S128x2048} {x24 : A S128}
  {x25 : A S128} {x26 : A S128} {x27 : A S128} {x28 : A S128}
  (G : Given P x0 x1 x2 x3 x4 x5 x6 x7 x8 x9 x10 x11 x12 x13 x14 x15 x16 x17 x18 x19 x20 x21 x22 x23 x24 x25 x26 x27 x28)

include G

/-- The reference's first result is the array of new features. -/
theorem reference_nodes :
    val_main_v161 (F := Ideal) x0 x1 x2 x3 x4 x5 x6 x13 x14 x15 x16 x17 x18 x19 x20 x21 x22 x23 x24 x25 x26 x27 x28
      = Cert.KernelIdeal.Value.newNodes P := by
  funext y
  rw [eq_ix2 y]
  exact out_apply G _ _

/-- The reference's second result is the array of new edges. -/
theorem reference_edges :
    val_main_v71 (F := Ideal) x0 x1 x3 x4 x5 x6 x7 x8 x9 x10 x11 x12 = Cert.KernelIdeal.Value.newEdges P := by
  funext y
  rw [eq_ix3 y]
  exact enew_apply G _ _ _

end Cert.ReferenceIdeal.Value

end
-- ==== Proof.lean ====
/- The proof of the certificate's claim. The frames and the naming of the scale follow from generated runs; the algebraic claim
   pairs the kernel's run with the reference's and closes by the equations of the two results (Proof/Equation.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_ordinary
public import proofs.«01_k».proof.Proof.Run
public import proofs.«01_k».proof.Proof.Equation
public import Idealize.ShloMosaic.Adequacy
public import Idealize.ShloMosaic.Init
public import Idealize.ShloMosaic.Lib.Claim

@[expose] public section

noncomputable section

namespace Cert.Proof

open Idealize.ShloMosaic Idealize.SL.Sem

/-- The reference has no semaphore. -/
theorem reference_no_semaphore (s : SemLoc Cert.ReferenceIdeal.sig) : False := by
  rcases s with ⟨i, hi⟩ | ⟨i, hi⟩ <;> exact absurd hi (Nat.not_lt_zero _)

/-- The kernel's arguments hold a layer's data where they meet the precondition. -/
theorem given (m : (ℓ : Loc Cert.KernelIdeal.nD Cert.KernelIdeal.τ Cert.KernelIdeal.sig) → Buf (Elt Ideal) ℓ)
    (hpre : Pre_KernelIdeal_ordinary (hPre_ordinary := Cert.Pre_ordinary.Gen.facts) m) (c : Dev Cert.KernelIdeal.nD) :
    ∃ P : Cert.Layer.Data, Cert.Layer.Given P
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22))
      (m ((c.tc : Thread Cert.KernelIdeal.nD Cert.KernelIdeal.τ).loc Cert.KernelIdeal.main_arg23))
      (m ((c.tc : Thread Cert.KernelIdeal.nD Cert.KernelIdeal.τ).loc Cert.KernelIdeal.main_arg24))
      (m ((c.tc : Thread Cert.KernelIdeal.nD Cert.KernelIdeal.τ).loc Cert.KernelIdeal.main_arg25))
      (m ((c.tc : Thread Cert.KernelIdeal.nD Cert.KernelIdeal.τ).loc Cert.KernelIdeal.main_arg26))
      (m ((c.tc : Thread Cert.KernelIdeal.nD Cert.KernelIdeal.τ).loc Cert.KernelIdeal.main_arg27))
      (m ((c.tc : Thread Cert.KernelIdeal.nD Cert.KernelIdeal.τ).loc Cert.KernelIdeal.main_arg28)) := by
  obtain ⟨h0, h1, h2, h3⟩ := hpre c
  letI := Cert.Pre_ordinary.Gen.facts
  exact Cert.Layer.given_of_ordinary _ _ _ _ _ _ _ _ _ _ _ _ _ _ _ _ _ _ _ _ _ _ _ _ _ _ _ _ _ h0 h1 h2 h3

/-- The reference's arguments hold the same data where they agree with the kernel's. -/
theorem given_reference (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) {P : Cert.Layer.Data} (G : Cert.Layer.Given P
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22))
      (m ((c.tc : Thread Cert.KernelIdeal.nD Cert.KernelIdeal.τ).loc Cert.KernelIdeal.main_arg23))
      (m ((c.tc : Thread Cert.KernelIdeal.nD Cert.KernelIdeal.τ).loc Cert.KernelIdeal.main_arg24))
      (m ((c.tc : Thread Cert.KernelIdeal.nD Cert.KernelIdeal.τ).loc Cert.KernelIdeal.main_arg25))
      (m ((c.tc : Thread Cert.KernelIdeal.nD Cert.KernelIdeal.τ).loc Cert.KernelIdeal.main_arg26))
      (m ((c.tc : Thread Cert.KernelIdeal.nD Cert.KernelIdeal.τ).loc Cert.KernelIdeal.main_arg27))
      (m ((c.tc : Thread Cert.KernelIdeal.nD Cert.KernelIdeal.τ).loc Cert.KernelIdeal.main_arg28)))
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) :
    Cert.Layer.Given P
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14))
      (m' ((c.tc : Thread Cert.ReferenceIdeal.nD Cert.ReferenceIdeal.τ).loc Cert.ReferenceIdeal.main_arg15))
      (m' ((c.tc : Thread Cert.ReferenceIdeal.nD Cert.ReferenceIdeal.τ).loc Cert.ReferenceIdeal.main_arg16))
      (m' ((c.tc : Thread Cert.ReferenceIdeal.nD Cert.ReferenceIdeal.τ).loc Cert.ReferenceIdeal.main_arg17))
      (m' ((c.tc : Thread Cert.ReferenceIdeal.nD Cert.ReferenceIdeal.τ).loc Cert.ReferenceIdeal.main_arg18))
      (m' ((c.tc : Thread Cert.ReferenceIdeal.nD Cert.ReferenceIdeal.τ).loc Cert.ReferenceIdeal.main_arg19))
      (m' ((c.tc : Thread Cert.ReferenceIdeal.nD Cert.ReferenceIdeal.τ).loc Cert.ReferenceIdeal.main_arg20))
      (m' ((c.tc : Thread Cert.ReferenceIdeal.nD Cert.ReferenceIdeal.τ).loc Cert.ReferenceIdeal.main_arg21))
      (m' ((c.tc : Thread Cert.ReferenceIdeal.nD Cert.ReferenceIdeal.τ).loc Cert.ReferenceIdeal.main_arg22))
      (m' ((c.tc : Thread Cert.ReferenceIdeal.nD Cert.ReferenceIdeal.τ).loc Cert.ReferenceIdeal.main_arg23))
      (m' ((c.tc : Thread Cert.ReferenceIdeal.nD Cert.ReferenceIdeal.τ).loc Cert.ReferenceIdeal.main_arg24))
      (m' ((c.tc : Thread Cert.ReferenceIdeal.nD Cert.ReferenceIdeal.τ).loc Cert.ReferenceIdeal.main_arg25))
      (m' ((c.tc : Thread Cert.ReferenceIdeal.nD Cert.ReferenceIdeal.τ).loc Cert.ReferenceIdeal.main_arg26))
      (m' ((c.tc : Thread Cert.ReferenceIdeal.nD Cert.ReferenceIdeal.τ).loc Cert.ReferenceIdeal.main_arg27))
      (m' ((c.tc : Thread Cert.ReferenceIdeal.nD Cert.ReferenceIdeal.τ).loc Cert.ReferenceIdeal.main_arg28)) := by
  obtain ⟨h0, h1, h2, h3, h4, h5, h6, h7, h8, h9, h10, h11, h12, h13, h14, h15, h16, h17, h18, h19, h20, h21, h22, h23, h24, h25, h26, h27, h28⟩ := h
  rw [h0, h1, h2, h3, h4, h5, h6, h7, h8, h9, h10, h11, h12, h13, h14, h15, h16, h17, h18, h19, h20, h21, h22, h23, h24, h25, h26, h27, h28]
  exact G

theorem claim : Cert.Claim := by
  refine ⟨Cert.Kernel.Gen.facts, Cert.KernelIdeal.Gen.facts, Cert.ReferenceIdeal.Gen.facts, Cert.Pre_ordinary.Gen.facts,
    fun m g _ => Cert.Kernel.Gen.frame m g, fun m g _ => Cert.KernelIdeal.Gen.frame m g,
    fun m g _ => Cert.KernelIdeal.Gen.frame m g, ?_, ?_, ?_, ?_⟩
  · exact fun m g _ => θ_run_mono (Cert.ReferenceIdeal.Value.run m g) fun _ hr =>
      ⟨fun c => (hr c).2.2, funext fun s => (reference_no_semaphore s.2).elim⟩
  · exact fun m g _ => θ_run_mono (Cert.ReferenceIdeal.Value.run m g) fun _ hr =>
      ⟨fun c => (hr c).2.2, funext fun s => (reference_no_semaphore s.2).elim⟩
  · exact IdealRules.named_const.statement _ _ _ _ _ rfl
  · pair_intro
    · run_from Cert.KernelIdeal.Value.run m g
    · run_from Cert.ReferenceIdeal.Value.run m' g'
      · obtain ⟨P, G⟩ := given m hpre c
        have G' := given_reference m m' c G (hagree c)
        obtain ⟨h0, h1, h2, h3, h4, h5, h6, h7, h8, h9, h10, h11, h12, h13, h14, h15, h16, h17, h18, h19, h20, h21, h22, h23, h24, h25, h26, h27, h28⟩ := hagree c
        rw [← h27, ← h28]
        exact (Cert.ReferenceIdeal.Read.val_main_v161_eq (StableHlo.launchContents m' c)).trans
          ((Cert.ReferenceIdeal.Value.reference_nodes G').trans (Cert.KernelIdeal.Value.kernel_nodes m g c G).symm)
      · obtain ⟨P, G⟩ := given m hpre c
        have G' := given_reference m m' c G (hagree c)
        obtain ⟨h0, h1, h2, h3, h4, h5, h6, h7, h8, h9, h10, h11, h12, h13, h14, h15, h16, h17, h18, h19, h20, h21, h22, h23, h24, h25, h26, h27, h28⟩ := hagree c
        rw [← h11, ← h12]
        exact (Cert.ReferenceIdeal.Read.val_main_v71_eq (StableHlo.launchContents m' c)).trans
          ((Cert.ReferenceIdeal.Value.reference_edges G').trans (Cert.KernelIdeal.Value.kernel_edges m g c G).symm)

end Cert.Proof

end
